-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_inputs_finite [hPre_router_inputs_finite : Cert.Pre_router_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_inputs_finite [hPre_router_inputs_finite : Cert.Pre_router_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_router_inputs_finite [hKernelIdeal : Cert.KernelIdeal.Facts] [hPre_router_inputs_finite : Cert.Pre_router_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_router_inputs_finite [hReferenceIdeal : Cert.ReferenceIdeal.Facts] [hPre_router_inputs_finite : Cert.Pre_router_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_router_inputs_finite [hKernelIdeal : Cert.KernelIdeal.Facts] [hReferenceIdeal : Cert.ReferenceIdeal.Facts] [hPre_router_inputs_finite : Cert.Pre_router_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_router_inputs_finite : Cert.Pre_router_inputs_finite.Facts),
    quiescent_Kernel (hKernel := hKernel)
    ∧ quiescent_KernelIdeal (hKernelIdeal := hKernelIdeal)
    ∧ quiescent_KernelIdeal_pre_router_inputs_finite (hKernelIdeal := hKernelIdeal) (hPre_router_inputs_finite := hPre_router_inputs_finite)
    ∧ quiescent_ReferenceIdeal (hReferenceIdeal := hReferenceIdeal)
    ∧ quiescent_ReferenceIdeal_pre_router_inputs_finite (hReferenceIdeal := hReferenceIdeal) (hPre_router_inputs_finite := hPre_router_inputs_finite)
    ∧ preserves_Kernel_KernelIdeal
    ∧ algebraic_KernelIdeal_ReferenceIdeal_pre_router_inputs_finite (hKernelIdeal := hKernelIdeal) (hReferenceIdeal := hReferenceIdeal) (hPre_router_inputs_finite := hPre_router_inputs_finite)
-- ==== Pre_router_inputs_finite.lean ====
abbrev S8192x16 : Shape := ⟨2, ![8192, 16]⟩
abbrev S32x16x256 : Shape := ⟨3, ![32, 16, 256]⟩
abbrev S32x256 : Shape := ⟨2, ![32, 256]⟩
abbrev S32x256x256 : Shape := ⟨3, ![32, 256, 256]⟩
abbrev S32x256x1 : Shape := ⟨3, ![32, 256, 1]⟩
abbrev S32x1 : Shape := ⟨2, ![32, 1]⟩
abbrev S16x16x256 : Shape := ⟨3, ![16, 16, 256]⟩
abbrev S16x256 : Shape := ⟨2, ![16, 256]⟩
abbrev S16x256x256 : Shape := ⟨3, ![16, 256, 256]⟩
abbrev S16x256x32 : Shape := ⟨3, ![16, 256, 32]⟩
abbrev S16x32 : Shape := ⟨2, ![16, 32]⟩
abbrev S_ : Shape := ⟨0, ![]⟩

class Facts : Prop where
  bcast_S_S8192x16 : S_.BroadcastsInDim S8192x16 (![] : Fin 0 → Fin S8192x16.rank)
  bcast_S_S16x16x256 : S_.BroadcastsInDim S16x16x256 (![] : Fin 0 → Fin S16x16x256.rank)
  bcast_S_S16x256 : S_.BroadcastsInDim S16x256 (![] : Fin 0 → Fin S16x256.rank)
  bcast_S_S16x256x256 : S_.BroadcastsInDim S16x256x256 (![] : Fin 0 → Fin S16x256x256.rank)
  bcast_S_S16x256x32 : S_.BroadcastsInDim S16x256x32 (![] : Fin 0 → Fin S16x256x32.rank)
  bcast_S_S16x32 : S_.BroadcastsInDim S16x32 (![] : Fin 0 → Fin S16x32.rank)

variable [Facts]

def fn_part1 {F : FTy → Type} [FloatOps F] (main_arg12 : FVec F S16x32 .f32) (main_v2 : IVec S8192x16 1) (main_v5 : IVec S16x16x256 1) (main_v8 : IVec S16x256 1) (main_v11 : IVec S16x256x256 1) (main_v14 : IVec S16x256 1) (main_v17 : IVec S16x256x32 1) : IVec S8192x16 1 × IVec S16x16x256 1 × IVec S16x256 1 × IVec S16x256x256 1 × IVec S16x256 1 × IVec S16x256x32 1 × IVec S16x32 1 :=
  let main_v18 : FVec F S16x32 .f32 := Host.absf main_arg12
  let main_cst_5 : FVec F S_ .f32 := constant S_ .f32 0x7F800000#32
  let main_v19 : FVec F S16x32 .f32 := broadcastInDim S16x32 ![] bcast_S_S16x32 main_cst_5
  let main_v20 : IVec S16x32 1 := cmpf .olt main_v18 main_v19
  (main_v2, main_v5, main_v8, main_v11, main_v14, main_v17, main_v20)

def fn {F : FTy → Type} [FloatOps F] (main_arg0 : FVec F S8192x16 .f32) (main_arg1 : FVec F S32x16x256 .f32) (main_arg2 : FVec F S32x256 .f32) (main_arg3 : FVec F S32x256x256 .f32) (main_arg4 : FVec F S32x256 .f32) (main_arg5 : FVec F S32x256x1 .f32) (main_arg6 : FVec F S32x1 .f32) (main_arg7 : FVec F S16x16x256 .f32) (main_arg8 : FVec F S16x256 .f32) (main_arg9 : FVec F S16x256x256 .f32) (main_arg10 : FVec F S16x256 .f32) (main_arg11 : FVec F S16x256x32 .f32) (main_arg12 : FVec F S16x32 .f32) (main_arg13 : FVec F S16x32 .f32) : IVec S8192x16 1 × IVec S16x16x256 1 × IVec S16x256 1 × IVec S16x256x256 1 × IVec S16x256 1 × IVec S16x256x32 1 × IVec S16x32 1 :=
  let main_v0 : FVec F S8192x16 .f32 := Host.absf main_arg0
  let main_cst : FVec F S_ .f32 := constant S_ .f32 0x7F800000#32
  let main_v1 : FVec F S8192x16 .f32 := broadcastInDim S8192x16 ![] bcast_S_S8192x16 main_cst
  let main_v2 : IVec S8192x16 1 := cmpf .olt main_v0 main_v1
  let main_v3 : FVec F S16x16x256 .f32 := Host.absf main_arg7
  let main_cst_0 : FVec F S_ .f32 := constant S_ .f32 0x7F800000#32
  let main_v4 : FVec F S16x16x256 .f32 := broadcastInDim S16x16x256 ![] bcast_S_S16x16x256 main_cst_0
  let main_v5 : IVec S16x16x256 1 := cmpf .olt main_v3 main_v4
  let main_v6 : FVec F S16x256 .f32 := Host.absf main_arg8
  let main_cst_1 : FVec F S_ .f32 := constant S_ .f32 0x7F800000#32
  let main_v7 : FVec F S16x256 .f32 := broadcastInDim S16x256 ![] bcast_S_S16x256 main_cst_1
  let main_v8 : IVec S16x256 1 := cmpf .olt main_v6 main_v7
  let main_v9 : FVec F S16x256x256 .f32 := Host.absf main_arg9
  let main_cst_2 : FVec F S_ .f32 := constant S_ .f32 0x7F800000#32
  let main_v10 : FVec F S16x256x256 .f32 := broadcastInDim S16x256x256 ![] bcast_S_S16x256x256 main_cst_2
  let main_v11 : IVec S16x256x256 1 := cmpf .olt main_v9 main_v10
  let main_v12 : FVec F S16x256 .f32 := Host.absf main_arg10
  let main_cst_3 : FVec F S_ .f32 := constant S_ .f32 0x7F800000#32
  let main_v13 : FVec F S16x256 .f32 := broadcastInDim S16x256 ![] bcast_S_S16x256 main_cst_3
  let main_v14 : IVec S16x256 1 := cmpf .olt main_v12 main_v13
  let main_v15 : FVec F S16x256x32 .f32 := Host.absf main_arg11
  let main_cst_4 : FVec F S_ .f32 := constant S_ .f32 0x7F800000#32
  let main_v16 : FVec F S16x256x32 .f32 := broadcastInDim S16x256x32 ![] bcast_S_S16x256x32 main_cst_4
  let main_v17 : IVec S16x256x32 1 := cmpf .olt main_v15 main_v16
  fn_part1 (F := F) main_arg12 main_v2 main_v5 main_v8 main_v11 main_v14 main_v17
-- ==== Kernel.lean ====
abbrev S8192x16 : Shape := ⟨2, ![8192, 16]⟩
abbrev S32x16x256 : Shape := ⟨3, ![32, 16, 256]⟩
abbrev S32x256 : Shape := ⟨2, ![32, 256]⟩
abbrev S32x256x256 : Shape := ⟨3, ![32, 256, 256]⟩
abbrev S32x256x1 : Shape := ⟨3, ![32, 256, 1]⟩
abbrev S32x1 : Shape := ⟨2, ![32, 1]⟩
abbrev S16x16x256 : Shape := ⟨3, ![16, 16, 256]⟩
abbrev S16x256 : Shape := ⟨2, ![16, 256]⟩
abbrev S16x256x256 : Shape := ⟨3, ![16, 256, 256]⟩
abbrev S16x256x32 : Shape := ⟨3, ![16, 256, 32]⟩
abbrev S16x32 : Shape := ⟨2, ![16, 32]⟩
abbrev S_ : Shape := ⟨0, ![]⟩
abbrev S1 : Shape := ⟨1, ![1]⟩
abbrev S2 : Shape := ⟨1, ![2]⟩
abbrev S1x1x1 : Shape := ⟨3, ![1, 1, 1]⟩
abbrev S16x8192x32 : Shape := ⟨3, ![16, 8192, 32]⟩
abbrev S16x32x1 : Shape := ⟨3, ![16, 32, 1]⟩
abbrev S16x16 : Shape := ⟨2, ![16, 16]⟩
abbrev S16x1x16 : Shape := ⟨3, ![16, 1, 16]⟩
abbrev S16x32x16 : Shape := ⟨3, ![16, 32, 16]⟩
abbrev S512x16 : Shape := ⟨2, ![512, 16]⟩
abbrev S16x512x32 : Shape := ⟨3, ![16, 512, 32]⟩
abbrev S512x32 : Shape := ⟨2, ![512, 32]⟩
abbrev S1x16x256 : Shape := ⟨3, ![1, 16, 256]⟩
abbrev S512x256 : Shape := ⟨2, ![512, 256]⟩
abbrev S1x256 : Shape := ⟨2, ![1, 256]⟩
abbrev S1x256x256 : Shape := ⟨3, ![1, 256, 256]⟩
abbrev S256x256 : Shape := ⟨2, ![256, 256]⟩
abbrev S1x256x1 : Shape := ⟨3, ![1, 256, 1]⟩
abbrev S256x1 : Shape := ⟨2, ![256, 1]⟩
abbrev S512x1 : Shape := ⟨2, ![512, 1]⟩
abbrev S1x1 : Shape := ⟨2, ![1, 1]⟩
abbrev S1x256x32 : Shape := ⟨3, ![1, 256, 32]⟩
abbrev S256x32 : Shape := ⟨2, ![256, 32]⟩
abbrev S1x32 : Shape := ⟨2, ![1, 32]⟩
abbrev S1x512x32 : Shape := ⟨3, ![1, 512, 32]⟩
abbrev S512 : Shape := ⟨1, ![512]⟩
abbrev S512x512 : Shape := ⟨2, ![512, 512]⟩

abbrev nBuf : Space → Nat
  | .hbm => 321
  | .vmem => 22
  | .smem => 0
  | _ => 0

abbrev hbmTy0_0 (i : Nat) : BufTy := match i % 128 with
  | 0 => ⟨S8192x16, .f32⟩
  | 1 => ⟨S32x16x256, .f32⟩
  | 2 => ⟨S32x256, .f32⟩
  | 3 => ⟨S32x256x256, .f32⟩
  | 4 => ⟨S32x256, .f32⟩
  | 5 => ⟨S32x256x1, .f32⟩
  | 6 => ⟨S32x1, .f32⟩
  | 7 => ⟨S16x16x256, .f32⟩
  | 8 => ⟨S16x256, .f32⟩
  | 9 => ⟨S16x256x256, .f32⟩
  | 10 => ⟨S16x256, .f32⟩
  | 11 => ⟨S16x256x32, .f32⟩
  | 12 => ⟨S16x32, .f32⟩
  | 13 => ⟨S16x32, .f32⟩
  | 14 => ⟨S_, .i32⟩
  | 15 => ⟨S_, .i32⟩
  | 16 => ⟨S_, .i32⟩
  | 17 => ⟨S_, .i32⟩
  | 18 => ⟨S1, .i32⟩
  | 19 => ⟨S_, .i32⟩
  | 20 => ⟨S_, .i32⟩
  | 21 => ⟨S_, .i32⟩
  | 22 => ⟨S1, .i32⟩
  | 23 => ⟨S2, .i32⟩
  | 24 => ⟨S_, .f32⟩
  | 25 => ⟨S_, .f32⟩
  | 26 => ⟨S_, .f32⟩
  | 27 => ⟨S_, .f32⟩
  | 28 => ⟨S1x1x1, .f32⟩
  | 29 => ⟨S1x1x1, .f32⟩
  | 30 => ⟨S1, .i32⟩
  | 31 => ⟨S_, .i32⟩
  | 32 => ⟨S1, .i32⟩
  | 33 => ⟨S_, .i32⟩
  | 34 => ⟨S16x8192x32, .i64⟩
  | 35 => ⟨S16x8192x32, .i64⟩
  | 36 => ⟨S16x8192x32, .i64⟩
  | 37 => ⟨S_, .i64⟩
  | 38 => ⟨S16x8192x32, .i64⟩
  | 39 => ⟨S16x8192x32, .i64⟩
  | 40 => ⟨S_, .i64⟩
  | 41 => ⟨S16x8192x32, .i64⟩
  | 42 => ⟨S16x8192x32, .i64⟩
  | 43 => ⟨S_, .i64⟩
  | 44 => ⟨S16x8192x32, .i64⟩
  | 45 => ⟨S16x8192x32, .i64⟩
  | 46 => ⟨S16x8192x32, .i64⟩
  | 47 => ⟨S16x8192x32, .i64⟩
  | 48 => ⟨S_, .i64⟩
  | 49 => ⟨S16x8192x32, .i64⟩
  | 50 => ⟨S16x8192x32, .i64⟩
  | 51 => ⟨S16x8192x32, .i32⟩
  | 52 => ⟨S16x8192x32, .i32⟩
  | 53 => ⟨S_, .i32⟩
  | 54 => ⟨S_, .i32⟩
  | 55 => ⟨S_, .i32⟩
  | 56 => ⟨S16x8192x32, .i32⟩
  | 57 => ⟨S16x8192x32, .i32⟩
  | 58 => ⟨S16x8192x32, .i32⟩
  | 59 => ⟨S16x8192x32, .i32⟩
  | 60 => ⟨S16x8192x32, .i32⟩
  | 61 => ⟨S_, .i32⟩
  | 62 => ⟨S16x8192x32, .i32⟩
  | 63 => ⟨S16x8192x32, .i32⟩
  | 64 => ⟨S_, .i32⟩
  | 65 => ⟨S16x8192x32, .i32⟩
  | 66 => ⟨S16x8192x32, .i32⟩
  | 67 => ⟨S16x8192x32, .i32⟩
  | 68 => ⟨S16x8192x32, .i32⟩
  | 69 => ⟨S16x8192x32, .i32⟩
  | 70 => ⟨S_, .i32⟩
  | 71 => ⟨S16x8192x32, .i32⟩
  | 72 => ⟨S16x8192x32, .i32⟩
  | 73 => ⟨S_, .i32⟩
  | 74 => ⟨S16x8192x32, .i32⟩
  | 75 => ⟨S16x8192x32, .i32⟩
  | 76 => ⟨S16x8192x32, .i32⟩
  | 77 => ⟨S16x8192x32, .i32⟩
  | 78 => ⟨S16x8192x32, .i32⟩
  | 79 => ⟨S_, .i32⟩
  | 80 => ⟨S16x8192x32, .i32⟩
  | 81 => ⟨S16x8192x32, .i32⟩
  | 82 => ⟨S_, .i32⟩
  | 83 => ⟨S16x8192x32, .i32⟩
  | 84 => ⟨S16x8192x32, .i32⟩
  | 85 => ⟨S16x8192x32, .i32⟩
  | 86 => ⟨S16x8192x32, .i32⟩
  | 87 => ⟨S16x8192x32, .i32⟩
  | 88 => ⟨S_, .i32⟩
  | 89 => ⟨S16x8192x32, .i32⟩
  | 90 => ⟨S16x8192x32, .i32⟩
  | 91 => ⟨S_, .i32⟩
  | 92 => ⟨S16x8192x32, .i32⟩
  | 93 => ⟨S16x8192x32, .i32⟩
  | 94 => ⟨S16x8192x32, .i32⟩
  | 95 => ⟨S16x8192x32, .i32⟩
  | 96 => ⟨S16x8192x32, .i32⟩
  | 97 => ⟨S16x8192x32, .i32⟩
  | 98 => ⟨S16x8192x32, .i32⟩
  | 99 => ⟨S16x8192x32, .i32⟩
  | 100 => ⟨S_, .i32⟩
  | 101 => ⟨S16x8192x32, .i32⟩
  | 102 => ⟨S16x8192x32, .i32⟩
  | 103 => ⟨S16x8192x32, .i32⟩
  | 104 => ⟨S_, .i32⟩
  | 105 => ⟨S16x8192x32, .i32⟩
  | 106 => ⟨S16x8192x32, .i32⟩
  | 107 => ⟨S_, .i32⟩
  | 108 => ⟨S16x8192x32, .i32⟩
  | 109 => ⟨S16x8192x32, .i32⟩
  | 110 => ⟨S16x8192x32, .i32⟩
  | 111 => ⟨S16x8192x32, .i32⟩
  | 112 => ⟨S16x8192x32, .i32⟩
  | 113 => ⟨S_, .i32⟩
  | 114 => ⟨S16x8192x32, .i32⟩
  | 115 => ⟨S16x8192x32, .i32⟩
  | 116 => ⟨S_, .i32⟩
  | 117 => ⟨S16x8192x32, .i32⟩
  | 118 => ⟨S16x8192x32, .i32⟩
  | 119 => ⟨S16x8192x32, .i32⟩
  | 120 => ⟨S16x8192x32, .i32⟩
  | 121 => ⟨S16x8192x32, .i32⟩
  | 122 => ⟨S_, .i32⟩
  | 123 => ⟨S16x8192x32, .i32⟩
  | 124 => ⟨S16x8192x32, .i32⟩
  | 125 => ⟨S_, .i32⟩
  | 126 => ⟨S16x8192x32, .i32⟩
  | 127 => ⟨S16x8192x32, .i32⟩
  | _ => ⟨S8192x16, .f32⟩

abbrev hbmTy0_1 (i : Nat) : BufTy := match i % 128 with
  | 0 => ⟨S16x8192x32, .i32⟩
  | 1 => ⟨S16x8192x32, .i32⟩
  | 2 => ⟨S16x8192x32, .i32⟩
  | 3 => ⟨S_, .i32⟩
  | 4 => ⟨S16x8192x32, .i32⟩
  | 5 => ⟨S16x8192x32, .i32⟩
  | 6 => ⟨S_, .i32⟩
  | 7 => ⟨S16x8192x32, .i32⟩
  | 8 => ⟨S16x8192x32, .i32⟩
  | 9 => ⟨S16x8192x32, .i32⟩
  | 10 => ⟨S16x8192x32, .i32⟩
  | 11 => ⟨S16x8192x32, .i32⟩
  | 12 => ⟨S16x8192x32, .i32⟩
  | 13 => ⟨S16x8192x32, .i32⟩
  | 14 => ⟨S16x8192x32, .i32⟩
  | 15 => ⟨S_, .i32⟩
  | 16 => ⟨S16x8192x32, .i32⟩
  | 17 => ⟨S16x8192x32, .i32⟩
  | 18 => ⟨S16x8192x32, .i32⟩
  | 19 => ⟨S_, .i32⟩
  | 20 => ⟨S16x8192x32, .i32⟩
  | 21 => ⟨S16x8192x32, .i32⟩
  | 22 => ⟨S_, .i32⟩
  | 23 => ⟨S16x8192x32, .i32⟩
  | 24 => ⟨S16x8192x32, .i32⟩
  | 25 => ⟨S16x8192x32, .i32⟩
  | 26 => ⟨S16x8192x32, .i32⟩
  | 27 => ⟨S16x8192x32, .i32⟩
  | 28 => ⟨S_, .i32⟩
  | 29 => ⟨S16x8192x32, .i32⟩
  | 30 => ⟨S16x8192x32, .i32⟩
  | 31 => ⟨S_, .i32⟩
  | 32 => ⟨S16x8192x32, .i32⟩
  | 33 => ⟨S16x8192x32, .i32⟩
  | 34 => ⟨S16x8192x32, .i32⟩
  | 35 => ⟨S16x8192x32, .i32⟩
  | 36 => ⟨S16x8192x32, .i32⟩
  | 37 => ⟨S_, .i32⟩
  | 38 => ⟨S16x8192x32, .i32⟩
  | 39 => ⟨S16x8192x32, .i32⟩
  | 40 => ⟨S_, .i32⟩
  | 41 => ⟨S16x8192x32, .i32⟩
  | 42 => ⟨S16x8192x32, .i32⟩
  | 43 => ⟨S16x8192x32, .i32⟩
  | 44 => ⟨S16x8192x32, .i32⟩
  | 45 => ⟨S16x8192x32, .i32⟩
  | 46 => ⟨S_, .i32⟩
  | 47 => ⟨S16x8192x32, .i32⟩
  | 48 => ⟨S16x8192x32, .i32⟩
  | 49 => ⟨S_, .i32⟩
  | 50 => ⟨S16x8192x32, .i32⟩
  | 51 => ⟨S16x8192x32, .i32⟩
  | 52 => ⟨S16x8192x32, .i32⟩
  | 53 => ⟨S16x8192x32, .i32⟩
  | 54 => ⟨S16x8192x32, .i32⟩
  | 55 => ⟨S16x8192x32, .i32⟩
  | 56 => ⟨S16x8192x32, .i32⟩
  | 57 => ⟨S16x8192x32, .i32⟩
  | 58 => ⟨S_, .i32⟩
  | 59 => ⟨S16x8192x32, .i32⟩
  | 60 => ⟨S16x8192x32, .i32⟩
  | 61 => ⟨S16x8192x32, .i32⟩
  | 62 => ⟨S_, .i32⟩
  | 63 => ⟨S16x8192x32, .i32⟩
  | 64 => ⟨S16x8192x32, .i32⟩
  | 65 => ⟨S_, .i32⟩
  | 66 => ⟨S16x8192x32, .i32⟩
  | 67 => ⟨S16x8192x32, .i32⟩
  | 68 => ⟨S16x8192x32, .i32⟩
  | 69 => ⟨S16x8192x32, .i32⟩
  | 70 => ⟨S16x8192x32, .i32⟩
  | 71 => ⟨S_, .i32⟩
  | 72 => ⟨S16x8192x32, .i32⟩
  | 73 => ⟨S16x8192x32, .i32⟩
  | 74 => ⟨S_, .i32⟩
  | 75 => ⟨S16x8192x32, .i32⟩
  | 76 => ⟨S16x8192x32, .i32⟩
  | 77 => ⟨S16x8192x32, .i32⟩
  | 78 => ⟨S16x8192x32, .i32⟩
  | 79 => ⟨S16x8192x32, .i32⟩
  | 80 => ⟨S_, .i32⟩
  | 81 => ⟨S16x8192x32, .i32⟩
  | 82 => ⟨S16x8192x32, .i32⟩
  | 83 => ⟨S_, .i32⟩
  | 84 => ⟨S16x8192x32, .i32⟩
  | 85 => ⟨S16x8192x32, .i32⟩
  | 86 => ⟨S16x8192x32, .i32⟩
  | 87 => ⟨S16x8192x32, .i32⟩
  | 88 => ⟨S16x8192x32, .i32⟩
  | 89 => ⟨S_, .i32⟩
  | 90 => ⟨S16x8192x32, .i32⟩
  | 91 => ⟨S16x8192x32, .i32⟩
  | 92 => ⟨S_, .i32⟩
  | 93 => ⟨S16x8192x32, .i32⟩
  | 94 => ⟨S16x8192x32, .i32⟩
  | 95 => ⟨S16x8192x32, .i32⟩
  | 96 => ⟨S16x8192x32, .i32⟩
  | 97 => ⟨S16x8192x32, .i32⟩
  | 98 => ⟨S16x8192x32, .i32⟩
  | 99 => ⟨S16x8192x32, .i32⟩
  | 100 => ⟨S16x8192x32, .i32⟩
  | 101 => ⟨S_, .i32⟩
  | 102 => ⟨S16x8192x32, .i32⟩
  | 103 => ⟨S16x8192x32, .i32⟩
  | 104 => ⟨S16x8192x32, .i32⟩
  | 105 => ⟨S_, .i32⟩
  | 106 => ⟨S16x8192x32, .i32⟩
  | 107 => ⟨S16x8192x32, .i32⟩
  | 108 => ⟨S_, .i32⟩
  | 109 => ⟨S16x8192x32, .i32⟩
  | 110 => ⟨S16x8192x32, .i32⟩
  | 111 => ⟨S16x8192x32, .i32⟩
  | 112 => ⟨S16x8192x32, .i32⟩
  | 113 => ⟨S16x8192x32, .i32⟩
  | 114 => ⟨S_, .i32⟩
  | 115 => ⟨S16x8192x32, .i32⟩
  | 116 => ⟨S16x8192x32, .i32⟩
  | 117 => ⟨S_, .i32⟩
  | 118 => ⟨S16x8192x32, .i32⟩
  | 119 => ⟨S16x8192x32, .i32⟩
  | 120 => ⟨S16x8192x32, .i32⟩
  | 121 => ⟨S16x8192x32, .i32⟩
  | 122 => ⟨S16x8192x32, .i32⟩
  | 123 => ⟨S_, .i32⟩
  | 124 => ⟨S16x8192x32, .i32⟩
  | 125 => ⟨S16x8192x32, .i32⟩
  | 126 => ⟨S_, .i32⟩
  | 127 => ⟨S16x8192x32, .i32⟩
  | _ => ⟨S8192x16, .f32⟩

abbrev hbmTy0_2 (i : Nat) : BufTy := match i % 128 with
  | 0 => ⟨S16x8192x32, .i32⟩
  | 1 => ⟨S16x8192x32, .i32⟩
  | 2 => ⟨S16x8192x32, .i32⟩
  | 3 => ⟨S16x8192x32, .i32⟩
  | 4 => ⟨S_, .i32⟩
  | 5 => ⟨S16x8192x32, .i32⟩
  | 6 => ⟨S16x8192x32, .i32⟩
  | 7 => ⟨S_, .i32⟩
  | 8 => ⟨S16x8192x32, .i32⟩
  | 9 => ⟨S16x8192x32, .i32⟩
  | 10 => ⟨S16x8192x32, .i32⟩
  | 11 => ⟨S16x8192x32, .i32⟩
  | 12 => ⟨S16x8192x32, .i32⟩
  | 13 => ⟨S16x8192x32, .i32⟩
  | 14 => ⟨S16x8192x32, .i32⟩
  | 15 => ⟨S16x8192x32, .i32⟩
  | 16 => ⟨S_, .i32⟩
  | 17 => ⟨S16x8192x32, .i32⟩
  | 18 => ⟨S16x8192x32, .i32⟩
  | 19 => ⟨S16x8192x32, .i32⟩
  | 20 => ⟨S_, .i32⟩
  | 21 => ⟨S16x8192x32, .i32⟩
  | 22 => ⟨S16x8192x32, .i32⟩
  | 23 => ⟨S_, .i32⟩
  | 24 => ⟨S16x8192x32, .i32⟩
  | 25 => ⟨S16x8192x32, .i32⟩
  | 26 => ⟨S16x8192x32, .f32⟩
  | 27 => ⟨S_, .f32⟩
  | 28 => ⟨S16x8192x32, .f32⟩
  | 29 => ⟨S16x8192x32, .f32⟩
  | 30 => ⟨S1x1x1, .f32⟩
  | 31 => ⟨S16x8192x32, .f32⟩
  | 32 => ⟨S16x8192x32, .f32⟩
  | 33 => ⟨S16x8192x32, .f32⟩
  | 34 => ⟨S16x8192x32, .f32⟩
  | 35 => ⟨S16x8192x32, .f32⟩
  | 36 => ⟨S16x8192x32, .f32⟩
  | 37 => ⟨S_, .f32⟩
  | 38 => ⟨S_, .f32⟩
  | 39 => ⟨S16x8192x32, .f32⟩
  | 40 => ⟨S16x8192x32, .f32⟩
  | 41 => ⟨S16x8192x32, .f32⟩
  | 42 => ⟨S16x8192x32, .f32⟩
  | 43 => ⟨S16x8192x32, .f32⟩
  | 44 => ⟨S16x8192x32, .f32⟩
  | 45 => ⟨S16x32x1, .f32⟩
  | 46 => ⟨S16x16, .i32⟩
  | 47 => ⟨S16x16, .i32⟩
  | 48 => ⟨S_, .i32⟩
  | 49 => ⟨S16x16, .i32⟩
  | 50 => ⟨S16x16, .i32⟩
  | 51 => ⟨S16x16, .i1⟩
  | 52 => ⟨S16x16, .f32⟩
  | 53 => ⟨S16x1x16, .f32⟩
  | 54 => ⟨S16x32x16, .f32⟩
  | 55 => ⟨S16x32x16, .f32⟩
  | 56 => ⟨S16x32x16, .f32⟩
  | 57 => ⟨S512x16, .f32⟩
  | 58 => ⟨S32x16x256, .bf16⟩
  | 59 => ⟨S32x256, .bf16⟩
  | 60 => ⟨S32x256x256, .bf16⟩
  | 61 => ⟨S32x256, .bf16⟩
  | 62 => ⟨S32x256x1, .bf16⟩
  | 63 => ⟨S8192x16, .f32⟩
  | 64 => ⟨S16x8192x32, .f32⟩
  | _ => ⟨S8192x16, .f32⟩

abbrev hbmTy (i : Nat) : BufTy := match i / 128 with
  | 0 => hbmTy0_0 i
  | 1 => hbmTy0_1 i
  | 2 => hbmTy0_2 i
  | _ => ⟨S8192x16, .f32⟩

abbrev bufTy : (tb : Table) → Fin (tcTables nBuf tb) → BufTy
  | .hbm, ⟨i, _⟩ => hbmTy i
  | .local _ .vmem, ⟨0, _⟩ => ⟨S512x16, .f32⟩
  | .local _ .vmem, ⟨1, _⟩ => ⟨S512x16, .f32⟩
  | .local _ .vmem, ⟨2, _⟩ => ⟨S16x512x32, .f32⟩
  | .local _ .vmem, ⟨3, _⟩ => ⟨S16x512x32, .f32⟩
  | .local _ .vmem, ⟨4, _⟩ => ⟨S32x16x256, .bf16⟩
  | .local _ .vmem, ⟨5, _⟩ => ⟨S32x256, .bf16⟩
  | .local _ .vmem, ⟨6, _⟩ => ⟨S32x256x256, .bf16⟩
  | .local _ .vmem, ⟨7, _⟩ => ⟨S32x256, .bf16⟩
  | .local _ .vmem, ⟨8, _⟩ => ⟨S32x256x1, .bf16⟩
  | .local _ .vmem, ⟨9, _⟩ => ⟨S32x1, .f32⟩
  | .local _ .vmem, ⟨10, _⟩ => ⟨S16x16x256, .f32⟩
  | .local _ .vmem, ⟨11, _⟩ => ⟨S16x256, .f32⟩
  | .local _ .vmem, ⟨12, _⟩ => ⟨S16x256x256, .f32⟩
  | .local _ .vmem, ⟨13, _⟩ => ⟨S16x256, .f32⟩
  | .local _ .vmem, ⟨14, _⟩ => ⟨S16x256x32, .f32⟩
  | .local _ .vmem, ⟨15, _⟩ => ⟨S16x32, .f32⟩
  | .local _ .vmem, ⟨16, _⟩ => ⟨S512x16, .f32⟩
  | .local _ .vmem, ⟨17, _⟩ => ⟨S512x16, .f32⟩
  | .local _ .vmem, ⟨18, _⟩ => ⟨S512x16, .f32⟩
  | .local _ .vmem, ⟨19, _⟩ => ⟨S16x512x32, .f32⟩
  | .local _ .vmem, ⟨20, _⟩ => ⟨S16x512x32, .f32⟩
  | .local _ .vmem, ⟨21, _⟩ => ⟨S512x32, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c_1 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_c : Ref sig .tc := ⟨.hbm, 37, rfl⟩
abbrev main_call0_v11 : Ref sig .tc := ⟨.hbm, 38, rfl⟩
abbrev main_call0_v12 : Ref sig .tc := ⟨.hbm, 39, rfl⟩
abbrev main_call0_c_0 : Ref sig .tc := ⟨.hbm, 40, rfl⟩
abbrev main_call0_v13 : Ref sig .tc := ⟨.hbm, 41, rfl⟩
abbrev main_call0_v14 : Ref sig .tc := ⟨.hbm, 42, rfl⟩
abbrev main_call0_c_1 : Ref sig .tc := ⟨.hbm, 43, rfl⟩
abbrev main_call0_v15 : Ref sig .tc := ⟨.hbm, 44, rfl⟩
abbrev main_call0_v16 : Ref sig .tc := ⟨.hbm, 45, rfl⟩
abbrev main_call0_v17 : Ref sig .tc := ⟨.hbm, 46, rfl⟩
abbrev main_call0_v18 : Ref sig .tc := ⟨.hbm, 47, rfl⟩
abbrev main_call0_c_2 : Ref sig .tc := ⟨.hbm, 48, rfl⟩
abbrev main_call0_v19 : Ref sig .tc := ⟨.hbm, 49, rfl⟩
abbrev main_call0_v20 : Ref sig .tc := ⟨.hbm, 50, rfl⟩
abbrev main_call0_v21 : Ref sig .tc := ⟨.hbm, 51, rfl⟩
abbrev main_call0_v22 : Ref sig .tc := ⟨.hbm, 52, rfl⟩
abbrev main_call0_call0_v0 : Ref sig .tc := ⟨.hbm, 53, rfl⟩
abbrev main_call0_call0_c : Ref sig .tc := ⟨.hbm, 54, rfl⟩
abbrev main_call0_call0_v1 : Ref sig .tc := ⟨.hbm, 55, rfl⟩
abbrev main_call0_call0_v2 : Ref sig .tc := ⟨.hbm, 56, rfl⟩
abbrev main_call0_call0_v3 : Ref sig .tc := ⟨.hbm, 57, rfl⟩
abbrev main_call0_call0_v4 : Ref sig .tc := ⟨.hbm, 58, rfl⟩
abbrev main_call0_call0_v5 : Ref sig .tc := ⟨.hbm, 59, rfl⟩
abbrev main_call0_call0_v6 : Ref sig .tc := ⟨.hbm, 60, rfl⟩
abbrev main_call0_call0_c_0 : Ref sig .tc := ⟨.hbm, 61, rfl⟩
abbrev main_call0_call0_v7 : Ref sig .tc := ⟨.hbm, 62, rfl⟩
abbrev main_call0_call0_v8 : Ref sig .tc := ⟨.hbm, 63, rfl⟩
abbrev main_call0_call0_c_1 : Ref sig .tc := ⟨.hbm, 64, rfl⟩
abbrev main_call0_call0_v9 : Ref sig .tc := ⟨.hbm, 65, rfl⟩
abbrev main_call0_call0_v10 : Ref sig .tc := ⟨.hbm, 66, rfl⟩
abbrev main_call0_call0_v11 : Ref sig .tc := ⟨.hbm, 67, rfl⟩
abbrev main_call0_call0_v12 : Ref sig .tc := ⟨.hbm, 68, rfl⟩
abbrev main_call0_call0_v13 : Ref sig .tc := ⟨.hbm, 69, rfl⟩
abbrev main_call0_call0_c_2 : Ref sig .tc := ⟨.hbm, 70, rfl⟩
abbrev main_call0_call0_v14 : Ref sig .tc := ⟨.hbm, 71, rfl⟩
abbrev main_call0_call0_v15 : Ref sig .tc := ⟨.hbm, 72, rfl⟩
abbrev main_call0_call0_c_3 : Ref sig .tc := ⟨.hbm, 73, rfl⟩
abbrev main_call0_call0_v16 : Ref sig .tc := ⟨.hbm, 74, rfl⟩
abbrev main_call0_call0_v17 : Ref sig .tc := ⟨.hbm, 75, rfl⟩
abbrev main_call0_call0_v18 : Ref sig .tc := ⟨.hbm, 76, rfl⟩
abbrev main_call0_call0_v19 : Ref sig .tc := ⟨.hbm, 77, rfl⟩
abbrev main_call0_call0_v20 : Ref sig .tc := ⟨.hbm, 78, rfl⟩
abbrev main_call0_call0_c_4 : Ref sig .tc := ⟨.hbm, 79, rfl⟩
abbrev main_call0_call0_v21 : Ref sig .tc := ⟨.hbm, 80, rfl⟩
abbrev main_call0_call0_v22 : Ref sig .tc := ⟨.hbm, 81, rfl⟩
abbrev main_call0_call0_c_5 : Ref sig .tc := ⟨.hbm, 82, rfl⟩
abbrev main_call0_call0_v23 : Ref sig .tc := ⟨.hbm, 83, rfl⟩
abbrev main_call0_call0_v24 : Ref sig .tc := ⟨.hbm, 84, rfl⟩
abbrev main_call0_call0_v25 : Ref sig .tc := ⟨.hbm, 85, rfl⟩
abbrev main_call0_call0_v26 : Ref sig .tc := ⟨.hbm, 86, rfl⟩
abbrev main_call0_call0_v27 : Ref sig .tc := ⟨.hbm, 87, rfl⟩
abbrev main_call0_call0_c_6 : Ref sig .tc := ⟨.hbm, 88, rfl⟩
abbrev main_call0_call0_v28 : Ref sig .tc := ⟨.hbm, 89, rfl⟩
abbrev main_call0_call0_v29 : Ref sig .tc := ⟨.hbm, 90, rfl⟩
abbrev main_call0_call0_c_7 : Ref sig .tc := ⟨.hbm, 91, rfl⟩
abbrev main_call0_call0_v30 : Ref sig .tc := ⟨.hbm, 92, rfl⟩
abbrev main_call0_call0_v31 : Ref sig .tc := ⟨.hbm, 93, rfl⟩
abbrev main_call0_call0_v32 : Ref sig .tc := ⟨.hbm, 94, rfl⟩
abbrev main_call0_call0_v33 : Ref sig .tc := ⟨.hbm, 95, rfl⟩
abbrev main_call0_call0_v34 : Ref sig .tc := ⟨.hbm, 96, rfl⟩
abbrev main_call0_call0_v35 : Ref sig .tc := ⟨.hbm, 97, rfl⟩
abbrev main_call0_call0_v36 : Ref sig .tc := ⟨.hbm, 98, rfl⟩
abbrev main_call0_call0_v37 : Ref sig .tc := ⟨.hbm, 99, rfl⟩
abbrev main_call0_call0_c_8 : Ref sig .tc := ⟨.hbm, 100, rfl⟩
abbrev main_call0_call0_v38 : Ref sig .tc := ⟨.hbm, 101, rfl⟩
abbrev main_call0_call0_v39 : Ref sig .tc := ⟨.hbm, 102, rfl⟩
abbrev main_call0_call0_v40 : Ref sig .tc := ⟨.hbm, 103, rfl⟩
abbrev main_call0_call0_c_9 : Ref sig .tc := ⟨.hbm, 104, rfl⟩
abbrev main_call0_call0_v41 : Ref sig .tc := ⟨.hbm, 105, rfl⟩
abbrev main_call0_call0_v42 : Ref sig .tc := ⟨.hbm, 106, rfl⟩
abbrev main_call0_call0_c_10 : Ref sig .tc := ⟨.hbm, 107, rfl⟩
abbrev main_call0_call0_v43 : Ref sig .tc := ⟨.hbm, 108, rfl⟩
abbrev main_call0_call0_v44 : Ref sig .tc := ⟨.hbm, 109, rfl⟩
abbrev main_call0_call0_v45 : Ref sig .tc := ⟨.hbm, 110, rfl⟩
abbrev main_call0_call0_v46 : Ref sig .tc := ⟨.hbm, 111, rfl⟩
abbrev main_call0_call0_v47 : Ref sig .tc := ⟨.hbm, 112, rfl⟩
abbrev main_call0_call0_c_11 : Ref sig .tc := ⟨.hbm, 113, rfl⟩
abbrev main_call0_call0_v48 : Ref sig .tc := ⟨.hbm, 114, rfl⟩
abbrev main_call0_call0_v49 : Ref sig .tc := ⟨.hbm, 115, rfl⟩
abbrev main_call0_call0_c_12 : Ref sig .tc := ⟨.hbm, 116, rfl⟩
abbrev main_call0_call0_v50 : Ref sig .tc := ⟨.hbm, 117, rfl⟩
abbrev main_call0_call0_v51 : Ref sig .tc := ⟨.hbm, 118, rfl⟩
abbrev main_call0_call0_v52 : Ref sig .tc := ⟨.hbm, 119, rfl⟩
abbrev main_call0_call0_v53 : Ref sig .tc := ⟨.hbm, 120, rfl⟩
abbrev main_call0_call0_v54 : Ref sig .tc := ⟨.hbm, 121, rfl⟩
abbrev main_call0_call0_c_13 : Ref sig .tc := ⟨.hbm, 122, rfl⟩
abbrev main_call0_call0_v55 : Ref sig .tc := ⟨.hbm, 123, rfl⟩
abbrev main_call0_call0_v56 : Ref sig .tc := ⟨.hbm, 124, rfl⟩
abbrev main_call0_call0_c_14 : Ref sig .tc := ⟨.hbm, 125, rfl⟩
abbrev main_call0_call0_v57 : Ref sig .tc := ⟨.hbm, 126, rfl⟩
abbrev main_call0_call0_v58 : Ref sig .tc := ⟨.hbm, 127, rfl⟩
abbrev main_call0_call0_v59 : Ref sig .tc := ⟨.hbm, 128, rfl⟩
abbrev main_call0_call0_v60 : Ref sig .tc := ⟨.hbm, 129, rfl⟩
abbrev main_call0_call0_v61 : Ref sig .tc := ⟨.hbm, 130, rfl⟩
abbrev main_call0_call0_c_15 : Ref sig .tc := ⟨.hbm, 131, rfl⟩
abbrev main_call0_call0_v62 : Ref sig .tc := ⟨.hbm, 132, rfl⟩
abbrev main_call0_call0_v63 : Ref sig .tc := ⟨.hbm, 133, rfl⟩
abbrev main_call0_call0_c_16 : Ref sig .tc := ⟨.hbm, 134, rfl⟩
abbrev main_call0_call0_v64 : Ref sig .tc := ⟨.hbm, 135, rfl⟩
abbrev main_call0_call0_v65 : Ref sig .tc := ⟨.hbm, 136, rfl⟩
abbrev main_call0_call0_v66 : Ref sig .tc := ⟨.hbm, 137, rfl⟩
abbrev main_call0_call0_v67 : Ref sig .tc := ⟨.hbm, 138, rfl⟩
abbrev main_call0_call0_v68 : Ref sig .tc := ⟨.hbm, 139, rfl⟩
abbrev main_call0_call0_v69 : Ref sig .tc := ⟨.hbm, 140, rfl⟩
abbrev main_call0_call0_v70 : Ref sig .tc := ⟨.hbm, 141, rfl⟩
abbrev main_call0_call0_v71 : Ref sig .tc := ⟨.hbm, 142, rfl⟩
abbrev main_call0_call0_c_17 : Ref sig .tc := ⟨.hbm, 143, rfl⟩
abbrev main_call0_call0_v72 : Ref sig .tc := ⟨.hbm, 144, rfl⟩
abbrev main_call0_call0_v73 : Ref sig .tc := ⟨.hbm, 145, rfl⟩
abbrev main_call0_call0_v74 : Ref sig .tc := ⟨.hbm, 146, rfl⟩
abbrev main_call0_call0_c_18 : Ref sig .tc := ⟨.hbm, 147, rfl⟩
abbrev main_call0_call0_v75 : Ref sig .tc := ⟨.hbm, 148, rfl⟩
abbrev main_call0_call0_v76 : Ref sig .tc := ⟨.hbm, 149, rfl⟩
abbrev main_call0_call0_c_19 : Ref sig .tc := ⟨.hbm, 150, rfl⟩
abbrev main_call0_call0_v77 : Ref sig .tc := ⟨.hbm, 151, rfl⟩
abbrev main_call0_call0_v78 : Ref sig .tc := ⟨.hbm, 152, rfl⟩
abbrev main_call0_call0_v79 : Ref sig .tc := ⟨.hbm, 153, rfl⟩
abbrev main_call0_call0_v80 : Ref sig .tc := ⟨.hbm, 154, rfl⟩
abbrev main_call0_call0_v81 : Ref sig .tc := ⟨.hbm, 155, rfl⟩
abbrev main_call0_call0_c_20 : Ref sig .tc := ⟨.hbm, 156, rfl⟩
abbrev main_call0_call0_v82 : Ref sig .tc := ⟨.hbm, 157, rfl⟩
abbrev main_call0_call0_v83 : Ref sig .tc := ⟨.hbm, 158, rfl⟩
abbrev main_call0_call0_c_21 : Ref sig .tc := ⟨.hbm, 159, rfl⟩
abbrev main_call0_call0_v84 : Ref sig .tc := ⟨.hbm, 160, rfl⟩
abbrev main_call0_call0_v85 : Ref sig .tc := ⟨.hbm, 161, rfl⟩
abbrev main_call0_call0_v86 : Ref sig .tc := ⟨.hbm, 162, rfl⟩
abbrev main_call0_call0_v87 : Ref sig .tc := ⟨.hbm, 163, rfl⟩
abbrev main_call0_call0_v88 : Ref sig .tc := ⟨.hbm, 164, rfl⟩
abbrev main_call0_call0_c_22 : Ref sig .tc := ⟨.hbm, 165, rfl⟩
abbrev main_call0_call0_v89 : Ref sig .tc := ⟨.hbm, 166, rfl⟩
abbrev main_call0_call0_v90 : Ref sig .tc := ⟨.hbm, 167, rfl⟩
abbrev main_call0_call0_c_23 : Ref sig .tc := ⟨.hbm, 168, rfl⟩
abbrev main_call0_call0_v91 : Ref sig .tc := ⟨.hbm, 169, rfl⟩
abbrev main_call0_call0_v92 : Ref sig .tc := ⟨.hbm, 170, rfl⟩
abbrev main_call0_call0_v93 : Ref sig .tc := ⟨.hbm, 171, rfl⟩
abbrev main_call0_call0_v94 : Ref sig .tc := ⟨.hbm, 172, rfl⟩
abbrev main_call0_call0_v95 : Ref sig .tc := ⟨.hbm, 173, rfl⟩
abbrev main_call0_call0_c_24 : Ref sig .tc := ⟨.hbm, 174, rfl⟩
abbrev main_call0_call0_v96 : Ref sig .tc := ⟨.hbm, 175, rfl⟩
abbrev main_call0_call0_v97 : Ref sig .tc := ⟨.hbm, 176, rfl⟩
abbrev main_call0_call0_c_25 : Ref sig .tc := ⟨.hbm, 177, rfl⟩
abbrev main_call0_call0_v98 : Ref sig .tc := ⟨.hbm, 178, rfl⟩
abbrev main_call0_call0_v99 : Ref sig .tc := ⟨.hbm, 179, rfl⟩
abbrev main_call0_call0_v100 : Ref sig .tc := ⟨.hbm, 180, rfl⟩
abbrev main_call0_call0_v101 : Ref sig .tc := ⟨.hbm, 181, rfl⟩
abbrev main_call0_call0_v102 : Ref sig .tc := ⟨.hbm, 182, rfl⟩
abbrev main_call0_call0_v103 : Ref sig .tc := ⟨.hbm, 183, rfl⟩
abbrev main_call0_call0_v104 : Ref sig .tc := ⟨.hbm, 184, rfl⟩
abbrev main_call0_call0_v105 : Ref sig .tc := ⟨.hbm, 185, rfl⟩
abbrev main_call0_call0_c_26 : Ref sig .tc := ⟨.hbm, 186, rfl⟩
abbrev main_call0_call0_v106 : Ref sig .tc := ⟨.hbm, 187, rfl⟩
abbrev main_call0_call0_v107 : Ref sig .tc := ⟨.hbm, 188, rfl⟩
abbrev main_call0_call0_v108 : Ref sig .tc := ⟨.hbm, 189, rfl⟩
abbrev main_call0_call0_c_27 : Ref sig .tc := ⟨.hbm, 190, rfl⟩
abbrev main_call0_call0_v109 : Ref sig .tc := ⟨.hbm, 191, rfl⟩
abbrev main_call0_call0_v110 : Ref sig .tc := ⟨.hbm, 192, rfl⟩
abbrev main_call0_call0_c_28 : Ref sig .tc := ⟨.hbm, 193, rfl⟩
abbrev main_call0_call0_v111 : Ref sig .tc := ⟨.hbm, 194, rfl⟩
abbrev main_call0_call0_v112 : Ref sig .tc := ⟨.hbm, 195, rfl⟩
abbrev main_call0_call0_v113 : Ref sig .tc := ⟨.hbm, 196, rfl⟩
abbrev main_call0_call0_v114 : Ref sig .tc := ⟨.hbm, 197, rfl⟩
abbrev main_call0_call0_v115 : Ref sig .tc := ⟨.hbm, 198, rfl⟩
abbrev main_call0_call0_c_29 : Ref sig .tc := ⟨.hbm, 199, rfl⟩
abbrev main_call0_call0_v116 : Ref sig .tc := ⟨.hbm, 200, rfl⟩
abbrev main_call0_call0_v117 : Ref sig .tc := ⟨.hbm, 201, rfl⟩
abbrev main_call0_call0_c_30 : Ref sig .tc := ⟨.hbm, 202, rfl⟩
abbrev main_call0_call0_v118 : Ref sig .tc := ⟨.hbm, 203, rfl⟩
abbrev main_call0_call0_v119 : Ref sig .tc := ⟨.hbm, 204, rfl⟩
abbrev main_call0_call0_v120 : Ref sig .tc := ⟨.hbm, 205, rfl⟩
abbrev main_call0_call0_v121 : Ref sig .tc := ⟨.hbm, 206, rfl⟩
abbrev main_call0_call0_v122 : Ref sig .tc := ⟨.hbm, 207, rfl⟩
abbrev main_call0_call0_c_31 : Ref sig .tc := ⟨.hbm, 208, rfl⟩
abbrev main_call0_call0_v123 : Ref sig .tc := ⟨.hbm, 209, rfl⟩
abbrev main_call0_call0_v124 : Ref sig .tc := ⟨.hbm, 210, rfl⟩
abbrev main_call0_call0_c_32 : Ref sig .tc := ⟨.hbm, 211, rfl⟩
abbrev main_call0_call0_v125 : Ref sig .tc := ⟨.hbm, 212, rfl⟩
abbrev main_call0_call0_v126 : Ref sig .tc := ⟨.hbm, 213, rfl⟩
abbrev main_call0_call0_v127 : Ref sig .tc := ⟨.hbm, 214, rfl⟩
abbrev main_call0_call0_v128 : Ref sig .tc := ⟨.hbm, 215, rfl⟩
abbrev main_call0_call0_v129 : Ref sig .tc := ⟨.hbm, 216, rfl⟩
abbrev main_call0_call0_c_33 : Ref sig .tc := ⟨.hbm, 217, rfl⟩
abbrev main_call0_call0_v130 : Ref sig .tc := ⟨.hbm, 218, rfl⟩
abbrev main_call0_call0_v131 : Ref sig .tc := ⟨.hbm, 219, rfl⟩
abbrev main_call0_call0_c_34 : Ref sig .tc := ⟨.hbm, 220, rfl⟩
abbrev main_call0_call0_v132 : Ref sig .tc := ⟨.hbm, 221, rfl⟩
abbrev main_call0_call0_v133 : Ref sig .tc := ⟨.hbm, 222, rfl⟩
abbrev main_call0_call0_v134 : Ref sig .tc := ⟨.hbm, 223, rfl⟩
abbrev main_call0_call0_v135 : Ref sig .tc := ⟨.hbm, 224, rfl⟩
abbrev main_call0_call0_v136 : Ref sig .tc := ⟨.hbm, 225, rfl⟩
abbrev main_call0_call0_v137 : Ref sig .tc := ⟨.hbm, 226, rfl⟩
abbrev main_call0_call0_v138 : Ref sig .tc := ⟨.hbm, 227, rfl⟩
abbrev main_call0_call0_v139 : Ref sig .tc := ⟨.hbm, 228, rfl⟩
abbrev main_call0_call0_c_35 : Ref sig .tc := ⟨.hbm, 229, rfl⟩
abbrev main_call0_call0_v140 : Ref sig .tc := ⟨.hbm, 230, rfl⟩
abbrev main_call0_call0_v141 : Ref sig .tc := ⟨.hbm, 231, rfl⟩
abbrev main_call0_call0_v142 : Ref sig .tc := ⟨.hbm, 232, rfl⟩
abbrev main_call0_call0_c_36 : Ref sig .tc := ⟨.hbm, 233, rfl⟩
abbrev main_call0_call0_v143 : Ref sig .tc := ⟨.hbm, 234, rfl⟩
abbrev main_call0_call0_v144 : Ref sig .tc := ⟨.hbm, 235, rfl⟩
abbrev main_call0_call0_c_37 : Ref sig .tc := ⟨.hbm, 236, rfl⟩
abbrev main_call0_call0_v145 : Ref sig .tc := ⟨.hbm, 237, rfl⟩
abbrev main_call0_call0_v146 : Ref sig .tc := ⟨.hbm, 238, rfl⟩
abbrev main_call0_call0_v147 : Ref sig .tc := ⟨.hbm, 239, rfl⟩
abbrev main_call0_call0_v148 : Ref sig .tc := ⟨.hbm, 240, rfl⟩
abbrev main_call0_call0_v149 : Ref sig .tc := ⟨.hbm, 241, rfl⟩
abbrev main_call0_call0_c_38 : Ref sig .tc := ⟨.hbm, 242, rfl⟩
abbrev main_call0_call0_v150 : Ref sig .tc := ⟨.hbm, 243, rfl⟩
abbrev main_call0_call0_v151 : Ref sig .tc := ⟨.hbm, 244, rfl⟩
abbrev main_call0_call0_c_39 : Ref sig .tc := ⟨.hbm, 245, rfl⟩
abbrev main_call0_call0_v152 : Ref sig .tc := ⟨.hbm, 246, rfl⟩
abbrev main_call0_call0_v153 : Ref sig .tc := ⟨.hbm, 247, rfl⟩
abbrev main_call0_call0_v154 : Ref sig .tc := ⟨.hbm, 248, rfl⟩
abbrev main_call0_call0_v155 : Ref sig .tc := ⟨.hbm, 249, rfl⟩
abbrev main_call0_call0_v156 : Ref sig .tc := ⟨.hbm, 250, rfl⟩
abbrev main_call0_call0_c_40 : Ref sig .tc := ⟨.hbm, 251, rfl⟩
abbrev main_call0_call0_v157 : Ref sig .tc := ⟨.hbm, 252, rfl⟩
abbrev main_call0_call0_v158 : Ref sig .tc := ⟨.hbm, 253, rfl⟩
abbrev main_call0_call0_c_41 : Ref sig .tc := ⟨.hbm, 254, rfl⟩
abbrev main_call0_call0_v159 : Ref sig .tc := ⟨.hbm, 255, rfl⟩
abbrev main_call0_call0_v160 : Ref sig .tc := ⟨.hbm, 256, rfl⟩
abbrev main_call0_call0_v161 : Ref sig .tc := ⟨.hbm, 257, rfl⟩
abbrev main_call0_call0_v162 : Ref sig .tc := ⟨.hbm, 258, rfl⟩
abbrev main_call0_call0_v163 : Ref sig .tc := ⟨.hbm, 259, rfl⟩
abbrev main_call0_call0_c_42 : Ref sig .tc := ⟨.hbm, 260, rfl⟩
abbrev main_call0_call0_v164 : Ref sig .tc := ⟨.hbm, 261, rfl⟩
abbrev main_call0_call0_v165 : Ref sig .tc := ⟨.hbm, 262, rfl⟩
abbrev main_call0_call0_c_43 : Ref sig .tc := ⟨.hbm, 263, rfl⟩
abbrev main_call0_call0_v166 : Ref sig .tc := ⟨.hbm, 264, rfl⟩
abbrev main_call0_call0_v167 : Ref sig .tc := ⟨.hbm, 265, rfl⟩
abbrev main_call0_call0_v168 : Ref sig .tc := ⟨.hbm, 266, rfl⟩
abbrev main_call0_call0_v169 : Ref sig .tc := ⟨.hbm, 267, rfl⟩
abbrev main_call0_call0_v170 : Ref sig .tc := ⟨.hbm, 268, rfl⟩
abbrev main_call0_v23_0 : Ref sig .tc := ⟨.hbm, 269, rfl⟩
abbrev main_call0_call0_v172 : Ref sig .tc := ⟨.hbm, 270, rfl⟩
abbrev main_call0_call0_v173 : Ref sig .tc := ⟨.hbm, 271, rfl⟩
abbrev main_call0_call0_c_44 : Ref sig .tc := ⟨.hbm, 272, rfl⟩
abbrev main_call0_call0_v174 : Ref sig .tc := ⟨.hbm, 273, rfl⟩
abbrev main_call0_v23_1 : Ref sig .tc := ⟨.hbm, 274, rfl⟩
abbrev main_call0_v24 : Ref sig .tc := ⟨.hbm, 275, rfl⟩
abbrev main_call0_c_3 : Ref sig .tc := ⟨.hbm, 276, rfl⟩
abbrev main_call0_v25 : Ref sig .tc := ⟨.hbm, 277, rfl⟩
abbrev main_call0_v26 : Ref sig .tc := ⟨.hbm, 278, rfl⟩
abbrev main_call0_c_4 : Ref sig .tc := ⟨.hbm, 279, rfl⟩
abbrev main_call0_v27 : Ref sig .tc := ⟨.hbm, 280, rfl⟩
abbrev main_call0_v28 : Ref sig .tc := ⟨.hbm, 281, rfl⟩
abbrev main_call0_v29 : Ref sig .tc := ⟨.hbm, 282, rfl⟩
abbrev main_call0_cst : Ref sig .tc := ⟨.hbm, 283, rfl⟩
abbrev main_call0_v30 : Ref sig .tc := ⟨.hbm, 284, rfl⟩
abbrev main_call0_v31 : Ref sig .tc := ⟨.hbm, 285, rfl⟩
abbrev main_call0_v32 : Ref sig .tc := ⟨.hbm, 286, rfl⟩
abbrev main_call0_v33 : Ref sig .tc := ⟨.hbm, 287, rfl⟩
abbrev main_call0_v34 : Ref sig .tc := ⟨.hbm, 288, rfl⟩
abbrev main_call0_v35 : Ref sig .tc := ⟨.hbm, 289, rfl⟩
abbrev main_call0_v36 : Ref sig .tc := ⟨.hbm, 290, rfl⟩
abbrev main_call0_v37 : Ref sig .tc := ⟨.hbm, 291, rfl⟩
abbrev main_v7 : Ref sig .tc := ⟨.hbm, 292, rfl⟩
abbrev main_cst_3 : Ref sig .tc := ⟨.hbm, 293, rfl⟩
abbrev main_call1_v0 : Ref sig .tc := ⟨.hbm, 294, rfl⟩
abbrev main_call1_v1 : Ref sig .tc := ⟨.hbm, 295, rfl⟩
abbrev main_v8 : Ref sig .tc := ⟨.hbm, 296, rfl⟩
abbrev main_v9 : Ref sig .tc := ⟨.hbm, 297, rfl⟩
abbrev main_v10 : Ref sig .tc := ⟨.hbm, 298, rfl⟩
abbrev main_v11 : Ref sig .tc := ⟨.hbm, 299, rfl⟩
abbrev main_v12 : Ref sig .tc := ⟨.hbm, 300, rfl⟩
abbrev main_v13 : Ref sig .tc := ⟨.hbm, 301, rfl⟩
abbrev main_v14 : Ref sig .tc := ⟨.hbm, 302, rfl⟩
abbrev main_v15 : Ref sig .tc := ⟨.hbm, 303, rfl⟩
abbrev main_c_4 : Ref sig .tc := ⟨.hbm, 304, rfl⟩
abbrev main_v16 : Ref sig .tc := ⟨.hbm, 305, rfl⟩
abbrev main_v17 : Ref sig .tc := ⟨.hbm, 306, rfl⟩
abbrev main_v18 : Ref sig .tc := ⟨.hbm, 307, rfl⟩
abbrev main_v19 : Ref sig .tc := ⟨.hbm, 308, rfl⟩
abbrev main_v20 : Ref sig .tc := ⟨.hbm, 309, rfl⟩
abbrev main_v21 : Ref sig .tc := ⟨.hbm, 310, rfl⟩
abbrev main_v22 : Ref sig .tc := ⟨.hbm, 311, rfl⟩
abbrev main_v23 : Ref sig .tc := ⟨.hbm, 312, rfl⟩
abbrev main_v24 : Ref sig .tc := ⟨.hbm, 313, rfl⟩
abbrev main_v25 : Ref sig .tc := ⟨.hbm, 314, rfl⟩
abbrev main_v26 : Ref sig .tc := ⟨.hbm, 315, rfl⟩
abbrev main_v27 : Ref sig .tc := ⟨.hbm, 316, rfl⟩
abbrev main_v28 : Ref sig .tc := ⟨.hbm, 317, rfl⟩
abbrev main_v29 : Ref sig .tc := ⟨.hbm, 318, rfl⟩
abbrev main_v30_0 : Ref sig .tc := ⟨.hbm, 319, rfl⟩
abbrev main_v30_1 : Ref sig .tc := ⟨.hbm, 320, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x16x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x256x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x256x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x16 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x512x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S8192x16 : Shape := ⟨2, ![8192, 16]⟩
abbrev S32x16x256 : Shape := ⟨3, ![32, 16, 256]⟩
abbrev S32x256 : Shape := ⟨2, ![32, 256]⟩
abbrev S32x256x256 : Shape := ⟨3, ![32, 256, 256]⟩
abbrev S32x256x1 : Shape := ⟨3, ![32, 256, 1]⟩
abbrev S32x1 : Shape := ⟨2, ![32, 1]⟩
abbrev S16x16x256 : Shape := ⟨3, ![16, 16, 256]⟩
abbrev S16x256 : Shape := ⟨2, ![16, 256]⟩
abbrev S16x256x256 : Shape := ⟨3, ![16, 256, 256]⟩
abbrev S16x256x32 : Shape := ⟨3, ![16, 256, 32]⟩
abbrev S16x32 : Shape := ⟨2, ![16, 32]⟩
abbrev S32x256x8192 : Shape := ⟨3, ![32, 256, 8192]⟩
abbrev S32x8192x256 : Shape := ⟨3, ![32, 8192, 256]⟩
abbrev S32x1x256 : Shape := ⟨3, ![32, 1, 256]⟩
abbrev S_ : Shape := ⟨0, ![]⟩
abbrev S32x8192x1 : Shape := ⟨3, ![32, 8192, 1]⟩
abbrev S32x1x1 : Shape := ⟨3, ![32, 1, 1]⟩
abbrev S32x8192 : Shape := ⟨2, ![32, 8192]⟩
abbrev S8192x32 : Shape := ⟨2, ![8192, 32]⟩
abbrev S16x256x8192 : Shape := ⟨3, ![16, 256, 8192]⟩
abbrev S16x8192x256 : Shape := ⟨3, ![16, 8192, 256]⟩
abbrev S16x1x256 : Shape := ⟨3, ![16, 1, 256]⟩
abbrev S16x8192x32 : Shape := ⟨3, ![16, 8192, 32]⟩
abbrev S16x1x32 : Shape := ⟨3, ![16, 1, 32]⟩
abbrev S1 : Shape := ⟨1, ![1]⟩
abbrev S2 : Shape := ⟨1, ![2]⟩
abbrev S1x1x1 : Shape := ⟨3, ![1, 1, 1]⟩
abbrev S16x8192 : Shape := ⟨2, ![16, 8192]⟩
abbrev S16x8192x1 : Shape := ⟨3, ![16, 8192, 1]⟩
abbrev S1x1x32 : Shape := ⟨3, ![1, 1, 32]⟩
abbrev S1x8192x32 : Shape := ⟨3, ![1, 8192, 32]⟩

abbrev nBuf : Space → Nat
  | .hbm => 381
  | .vmem => 0
  | .smem => 0
  | _ => 0

abbrev hbmTy0_0 (i : Nat) : BufTy := match i % 128 with
  | 0 => ⟨S8192x16, .f32⟩
  | 1 => ⟨S32x16x256, .f32⟩
  | 2 => ⟨S32x256, .f32⟩
  | 3 => ⟨S32x256x256, .f32⟩
  | 4 => ⟨S32x256, .f32⟩
  | 5 => ⟨S32x256x1, .f32⟩
  | 6 => ⟨S32x1, .f32⟩
  | 7 => ⟨S16x16x256, .f32⟩
  | 8 => ⟨S16x256, .f32⟩
  | 9 => ⟨S16x256x256, .f32⟩
  | 10 => ⟨S16x256, .f32⟩
  | 11 => ⟨S16x256x32, .f32⟩
  | 12 => ⟨S16x32, .f32⟩
  | 13 => ⟨S16x32, .f32⟩
  | 14 => ⟨S32x256x8192, .f32⟩
  | 15 => ⟨S32x8192x256, .f32⟩
  | 16 => ⟨S32x1x256, .f32⟩
  | 17 => ⟨S32x8192x256, .f32⟩
  | 18 => ⟨S32x8192x256, .f32⟩
  | 19 => ⟨S_, .f32⟩
  | 20 => ⟨S32x8192x256, .f32⟩
  | 21 => ⟨S32x8192x256, .f32⟩
  | 22 => ⟨S32x8192x256, .f32⟩
  | 23 => ⟨S32x1x256, .f32⟩
  | 24 => ⟨S32x8192x256, .f32⟩
  | 25 => ⟨S32x8192x256, .f32⟩
  | 26 => ⟨S_, .f32⟩
  | 27 => ⟨S32x8192x256, .f32⟩
  | 28 => ⟨S32x8192x256, .f32⟩
  | 29 => ⟨S32x8192x1, .f32⟩
  | 30 => ⟨S32x1x1, .f32⟩
  | 31 => ⟨S32x8192x1, .f32⟩
  | 32 => ⟨S32x8192x1, .f32⟩
  | 33 => ⟨S32x8192, .f32⟩
  | 34 => ⟨S8192x32, .f32⟩
  | 35 => ⟨S16x256x8192, .f32⟩
  | 36 => ⟨S16x8192x256, .f32⟩
  | 37 => ⟨S16x1x256, .f32⟩
  | 38 => ⟨S16x8192x256, .f32⟩
  | 39 => ⟨S16x8192x256, .f32⟩
  | 40 => ⟨S_, .f32⟩
  | 41 => ⟨S16x8192x256, .f32⟩
  | 42 => ⟨S16x8192x256, .f32⟩
  | 43 => ⟨S16x8192x256, .f32⟩
  | 44 => ⟨S16x1x256, .f32⟩
  | 45 => ⟨S16x8192x256, .f32⟩
  | 46 => ⟨S16x8192x256, .f32⟩
  | 47 => ⟨S_, .f32⟩
  | 48 => ⟨S16x8192x256, .f32⟩
  | 49 => ⟨S16x8192x256, .f32⟩
  | 50 => ⟨S16x8192x32, .f32⟩
  | 51 => ⟨S16x1x32, .f32⟩
  | 52 => ⟨S16x8192x32, .f32⟩
  | 53 => ⟨S16x8192x32, .f32⟩
  | 54 => ⟨S_, .i32⟩
  | 55 => ⟨S_, .i32⟩
  | 56 => ⟨S_, .i32⟩
  | 57 => ⟨S_, .i32⟩
  | 58 => ⟨S1, .i32⟩
  | 59 => ⟨S_, .i32⟩
  | 60 => ⟨S_, .i32⟩
  | 61 => ⟨S_, .i32⟩
  | 62 => ⟨S1, .i32⟩
  | 63 => ⟨S2, .i32⟩
  | 64 => ⟨S_, .f32⟩
  | 65 => ⟨S_, .f32⟩
  | 66 => ⟨S_, .f32⟩
  | 67 => ⟨S_, .f32⟩
  | 68 => ⟨S1x1x1, .f32⟩
  | 69 => ⟨S1x1x1, .f32⟩
  | 70 => ⟨S1, .i32⟩
  | 71 => ⟨S_, .i32⟩
  | 72 => ⟨S1, .i32⟩
  | 73 => ⟨S_, .i32⟩
  | 74 => ⟨S16x8192x32, .i64⟩
  | 75 => ⟨S16x8192x32, .i64⟩
  | 76 => ⟨S16x8192x32, .i64⟩
  | 77 => ⟨S_, .i64⟩
  | 78 => ⟨S16x8192x32, .i64⟩
  | 79 => ⟨S16x8192x32, .i64⟩
  | 80 => ⟨S_, .i64⟩
  | 81 => ⟨S16x8192x32, .i64⟩
  | 82 => ⟨S16x8192x32, .i64⟩
  | 83 => ⟨S_, .i64⟩
  | 84 => ⟨S16x8192x32, .i64⟩
  | 85 => ⟨S16x8192x32, .i64⟩
  | 86 => ⟨S16x8192x32, .i64⟩
  | 87 => ⟨S16x8192x32, .i64⟩
  | 88 => ⟨S_, .i64⟩
  | 89 => ⟨S16x8192x32, .i64⟩
  | 90 => ⟨S16x8192x32, .i64⟩
  | 91 => ⟨S16x8192x32, .i32⟩
  | 92 => ⟨S16x8192x32, .i32⟩
  | 93 => ⟨S_, .i32⟩
  | 94 => ⟨S_, .i32⟩
  | 95 => ⟨S_, .i32⟩
  | 96 => ⟨S16x8192x32, .i32⟩
  | 97 => ⟨S16x8192x32, .i32⟩
  | 98 => ⟨S16x8192x32, .i32⟩
  | 99 => ⟨S16x8192x32, .i32⟩
  | 100 => ⟨S16x8192x32, .i32⟩
  | 101 => ⟨S_, .i32⟩
  | 102 => ⟨S16x8192x32, .i32⟩
  | 103 => ⟨S16x8192x32, .i32⟩
  | 104 => ⟨S_, .i32⟩
  | 105 => ⟨S16x8192x32, .i32⟩
  | 106 => ⟨S16x8192x32, .i32⟩
  | 107 => ⟨S16x8192x32, .i32⟩
  | 108 => ⟨S16x8192x32, .i32⟩
  | 109 => ⟨S16x8192x32, .i32⟩
  | 110 => ⟨S_, .i32⟩
  | 111 => ⟨S16x8192x32, .i32⟩
  | 112 => ⟨S16x8192x32, .i32⟩
  | 113 => ⟨S_, .i32⟩
  | 114 => ⟨S16x8192x32, .i32⟩
  | 115 => ⟨S16x8192x32, .i32⟩
  | 116 => ⟨S16x8192x32, .i32⟩
  | 117 => ⟨S16x8192x32, .i32⟩
  | 118 => ⟨S16x8192x32, .i32⟩
  | 119 => ⟨S_, .i32⟩
  | 120 => ⟨S16x8192x32, .i32⟩
  | 121 => ⟨S16x8192x32, .i32⟩
  | 122 => ⟨S_, .i32⟩
  | 123 => ⟨S16x8192x32, .i32⟩
  | 124 => ⟨S16x8192x32, .i32⟩
  | 125 => ⟨S16x8192x32, .i32⟩
  | 126 => ⟨S16x8192x32, .i32⟩
  | 127 => ⟨S16x8192x32, .i32⟩
  | _ => ⟨S8192x16, .f32⟩

abbrev hbmTy0_1 (i : Nat) : BufTy := match i % 128 with
  | 0 => ⟨S_, .i32⟩
  | 1 => ⟨S16x8192x32, .i32⟩
  | 2 => ⟨S16x8192x32, .i32⟩
  | 3 => ⟨S_, .i32⟩
  | 4 => ⟨S16x8192x32, .i32⟩
  | 5 => ⟨S16x8192x32, .i32⟩
  | 6 => ⟨S16x8192x32, .i32⟩
  | 7 => ⟨S16x8192x32, .i32⟩
  | 8 => ⟨S16x8192x32, .i32⟩
  | 9 => ⟨S16x8192x32, .i32⟩
  | 10 => ⟨S16x8192x32, .i32⟩
  | 11 => ⟨S16x8192x32, .i32⟩
  | 12 => ⟨S_, .i32⟩
  | 13 => ⟨S16x8192x32, .i32⟩
  | 14 => ⟨S16x8192x32, .i32⟩
  | 15 => ⟨S16x8192x32, .i32⟩
  | 16 => ⟨S_, .i32⟩
  | 17 => ⟨S16x8192x32, .i32⟩
  | 18 => ⟨S16x8192x32, .i32⟩
  | 19 => ⟨S_, .i32⟩
  | 20 => ⟨S16x8192x32, .i32⟩
  | 21 => ⟨S16x8192x32, .i32⟩
  | 22 => ⟨S16x8192x32, .i32⟩
  | 23 => ⟨S16x8192x32, .i32⟩
  | 24 => ⟨S16x8192x32, .i32⟩
  | 25 => ⟨S_, .i32⟩
  | 26 => ⟨S16x8192x32, .i32⟩
  | 27 => ⟨S16x8192x32, .i32⟩
  | 28 => ⟨S_, .i32⟩
  | 29 => ⟨S16x8192x32, .i32⟩
  | 30 => ⟨S16x8192x32, .i32⟩
  | 31 => ⟨S16x8192x32, .i32⟩
  | 32 => ⟨S16x8192x32, .i32⟩
  | 33 => ⟨S16x8192x32, .i32⟩
  | 34 => ⟨S_, .i32⟩
  | 35 => ⟨S16x8192x32, .i32⟩
  | 36 => ⟨S16x8192x32, .i32⟩
  | 37 => ⟨S_, .i32⟩
  | 38 => ⟨S16x8192x32, .i32⟩
  | 39 => ⟨S16x8192x32, .i32⟩
  | 40 => ⟨S16x8192x32, .i32⟩
  | 41 => ⟨S16x8192x32, .i32⟩
  | 42 => ⟨S16x8192x32, .i32⟩
  | 43 => ⟨S_, .i32⟩
  | 44 => ⟨S16x8192x32, .i32⟩
  | 45 => ⟨S16x8192x32, .i32⟩
  | 46 => ⟨S_, .i32⟩
  | 47 => ⟨S16x8192x32, .i32⟩
  | 48 => ⟨S16x8192x32, .i32⟩
  | 49 => ⟨S16x8192x32, .i32⟩
  | 50 => ⟨S16x8192x32, .i32⟩
  | 51 => ⟨S16x8192x32, .i32⟩
  | 52 => ⟨S16x8192x32, .i32⟩
  | 53 => ⟨S16x8192x32, .i32⟩
  | 54 => ⟨S16x8192x32, .i32⟩
  | 55 => ⟨S_, .i32⟩
  | 56 => ⟨S16x8192x32, .i32⟩
  | 57 => ⟨S16x8192x32, .i32⟩
  | 58 => ⟨S16x8192x32, .i32⟩
  | 59 => ⟨S_, .i32⟩
  | 60 => ⟨S16x8192x32, .i32⟩
  | 61 => ⟨S16x8192x32, .i32⟩
  | 62 => ⟨S_, .i32⟩
  | 63 => ⟨S16x8192x32, .i32⟩
  | 64 => ⟨S16x8192x32, .i32⟩
  | 65 => ⟨S16x8192x32, .i32⟩
  | 66 => ⟨S16x8192x32, .i32⟩
  | 67 => ⟨S16x8192x32, .i32⟩
  | 68 => ⟨S_, .i32⟩
  | 69 => ⟨S16x8192x32, .i32⟩
  | 70 => ⟨S16x8192x32, .i32⟩
  | 71 => ⟨S_, .i32⟩
  | 72 => ⟨S16x8192x32, .i32⟩
  | 73 => ⟨S16x8192x32, .i32⟩
  | 74 => ⟨S16x8192x32, .i32⟩
  | 75 => ⟨S16x8192x32, .i32⟩
  | 76 => ⟨S16x8192x32, .i32⟩
  | 77 => ⟨S_, .i32⟩
  | 78 => ⟨S16x8192x32, .i32⟩
  | 79 => ⟨S16x8192x32, .i32⟩
  | 80 => ⟨S_, .i32⟩
  | 81 => ⟨S16x8192x32, .i32⟩
  | 82 => ⟨S16x8192x32, .i32⟩
  | 83 => ⟨S16x8192x32, .i32⟩
  | 84 => ⟨S16x8192x32, .i32⟩
  | 85 => ⟨S16x8192x32, .i32⟩
  | 86 => ⟨S_, .i32⟩
  | 87 => ⟨S16x8192x32, .i32⟩
  | 88 => ⟨S16x8192x32, .i32⟩
  | 89 => ⟨S_, .i32⟩
  | 90 => ⟨S16x8192x32, .i32⟩
  | 91 => ⟨S16x8192x32, .i32⟩
  | 92 => ⟨S16x8192x32, .i32⟩
  | 93 => ⟨S16x8192x32, .i32⟩
  | 94 => ⟨S16x8192x32, .i32⟩
  | 95 => ⟨S16x8192x32, .i32⟩
  | 96 => ⟨S16x8192x32, .i32⟩
  | 97 => ⟨S16x8192x32, .i32⟩
  | 98 => ⟨S_, .i32⟩
  | 99 => ⟨S16x8192x32, .i32⟩
  | 100 => ⟨S16x8192x32, .i32⟩
  | 101 => ⟨S16x8192x32, .i32⟩
  | 102 => ⟨S_, .i32⟩
  | 103 => ⟨S16x8192x32, .i32⟩
  | 104 => ⟨S16x8192x32, .i32⟩
  | 105 => ⟨S_, .i32⟩
  | 106 => ⟨S16x8192x32, .i32⟩
  | 107 => ⟨S16x8192x32, .i32⟩
  | 108 => ⟨S16x8192x32, .i32⟩
  | 109 => ⟨S16x8192x32, .i32⟩
  | 110 => ⟨S16x8192x32, .i32⟩
  | 111 => ⟨S_, .i32⟩
  | 112 => ⟨S16x8192x32, .i32⟩
  | 113 => ⟨S16x8192x32, .i32⟩
  | 114 => ⟨S_, .i32⟩
  | 115 => ⟨S16x8192x32, .i32⟩
  | 116 => ⟨S16x8192x32, .i32⟩
  | 117 => ⟨S16x8192x32, .i32⟩
  | 118 => ⟨S16x8192x32, .i32⟩
  | 119 => ⟨S16x8192x32, .i32⟩
  | 120 => ⟨S_, .i32⟩
  | 121 => ⟨S16x8192x32, .i32⟩
  | 122 => ⟨S16x8192x32, .i32⟩
  | 123 => ⟨S_, .i32⟩
  | 124 => ⟨S16x8192x32, .i32⟩
  | 125 => ⟨S16x8192x32, .i32⟩
  | 126 => ⟨S16x8192x32, .i32⟩
  | 127 => ⟨S16x8192x32, .i32⟩
  | _ => ⟨S8192x16, .f32⟩

abbrev hbmTy0_2 (i : Nat) : BufTy := match i % 128 with
  | 0 => ⟨S16x8192x32, .i32⟩
  | 1 => ⟨S_, .i32⟩
  | 2 => ⟨S16x8192x32, .i32⟩
  | 3 => ⟨S16x8192x32, .i32⟩
  | 4 => ⟨S_, .i32⟩
  | 5 => ⟨S16x8192x32, .i32⟩
  | 6 => ⟨S16x8192x32, .i32⟩
  | 7 => ⟨S16x8192x32, .i32⟩
  | 8 => ⟨S16x8192x32, .i32⟩
  | 9 => ⟨S16x8192x32, .i32⟩
  | 10 => ⟨S16x8192x32, .i32⟩
  | 11 => ⟨S16x8192x32, .i32⟩
  | 12 => ⟨S16x8192x32, .i32⟩
  | 13 => ⟨S_, .i32⟩
  | 14 => ⟨S16x8192x32, .i32⟩
  | 15 => ⟨S16x8192x32, .i32⟩
  | 16 => ⟨S16x8192x32, .i32⟩
  | 17 => ⟨S_, .i32⟩
  | 18 => ⟨S16x8192x32, .i32⟩
  | 19 => ⟨S16x8192x32, .i32⟩
  | 20 => ⟨S_, .i32⟩
  | 21 => ⟨S16x8192x32, .i32⟩
  | 22 => ⟨S16x8192x32, .i32⟩
  | 23 => ⟨S16x8192x32, .i32⟩
  | 24 => ⟨S16x8192x32, .i32⟩
  | 25 => ⟨S16x8192x32, .i32⟩
  | 26 => ⟨S_, .i32⟩
  | 27 => ⟨S16x8192x32, .i32⟩
  | 28 => ⟨S16x8192x32, .i32⟩
  | 29 => ⟨S_, .i32⟩
  | 30 => ⟨S16x8192x32, .i32⟩
  | 31 => ⟨S16x8192x32, .i32⟩
  | 32 => ⟨S16x8192x32, .i32⟩
  | 33 => ⟨S16x8192x32, .i32⟩
  | 34 => ⟨S16x8192x32, .i32⟩
  | 35 => ⟨S_, .i32⟩
  | 36 => ⟨S16x8192x32, .i32⟩
  | 37 => ⟨S16x8192x32, .i32⟩
  | 38 => ⟨S_, .i32⟩
  | 39 => ⟨S16x8192x32, .i32⟩
  | 40 => ⟨S16x8192x32, .i32⟩
  | 41 => ⟨S16x8192x32, .i32⟩
  | 42 => ⟨S16x8192x32, .i32⟩
  | 43 => ⟨S16x8192x32, .i32⟩
  | 44 => ⟨S_, .i32⟩
  | 45 => ⟨S16x8192x32, .i32⟩
  | 46 => ⟨S16x8192x32, .i32⟩
  | 47 => ⟨S_, .i32⟩
  | 48 => ⟨S16x8192x32, .i32⟩
  | 49 => ⟨S16x8192x32, .i32⟩
  | 50 => ⟨S16x8192x32, .i32⟩
  | 51 => ⟨S16x8192x32, .i32⟩
  | 52 => ⟨S16x8192x32, .i32⟩
  | 53 => ⟨S16x8192x32, .i32⟩
  | 54 => ⟨S16x8192x32, .i32⟩
  | 55 => ⟨S16x8192x32, .i32⟩
  | 56 => ⟨S_, .i32⟩
  | 57 => ⟨S16x8192x32, .i32⟩
  | 58 => ⟨S16x8192x32, .i32⟩
  | 59 => ⟨S16x8192x32, .i32⟩
  | 60 => ⟨S_, .i32⟩
  | 61 => ⟨S16x8192x32, .i32⟩
  | 62 => ⟨S16x8192x32, .i32⟩
  | 63 => ⟨S_, .i32⟩
  | 64 => ⟨S16x8192x32, .i32⟩
  | 65 => ⟨S16x8192x32, .i32⟩
  | 66 => ⟨S16x8192x32, .f32⟩
  | 67 => ⟨S_, .f32⟩
  | 68 => ⟨S16x8192x32, .f32⟩
  | 69 => ⟨S16x8192x32, .f32⟩
  | 70 => ⟨S1x1x1, .f32⟩
  | 71 => ⟨S16x8192x32, .f32⟩
  | 72 => ⟨S16x8192x32, .f32⟩
  | 73 => ⟨S16x8192x32, .f32⟩
  | 74 => ⟨S16x8192x32, .f32⟩
  | 75 => ⟨S16x8192x32, .f32⟩
  | 76 => ⟨S16x8192x32, .f32⟩
  | 77 => ⟨S_, .f32⟩
  | 78 => ⟨S_, .f32⟩
  | 79 => ⟨S16x8192x32, .f32⟩
  | 80 => ⟨S16x8192x32, .f32⟩
  | 81 => ⟨S16x8192x32, .f32⟩
  | 82 => ⟨S16x8192x32, .f32⟩
  | 83 => ⟨S16x8192x32, .f32⟩
  | 84 => ⟨S16x8192x32, .f32⟩
  | 85 => ⟨S16x8192x32, .f32⟩
  | 86 => ⟨S_, .f32⟩
  | 87 => ⟨S16x8192x32, .f32⟩
  | 88 => ⟨S16x8192x32, .f32⟩
  | 89 => ⟨S_, .f32⟩
  | 90 => ⟨S16x8192, .f32⟩
  | 91 => ⟨S_, .f32⟩
  | 92 => ⟨S16x8192, .f32⟩
  | 93 => ⟨S16x8192, .f32⟩
  | 94 => ⟨S16x8192x1, .f32⟩
  | 95 => ⟨S16x8192x32, .f32⟩
  | 96 => ⟨S16x8192x32, .f32⟩
  | 97 => ⟨S16x8192x32, .f32⟩
  | 98 => ⟨S_, .f32⟩
  | 99 => ⟨S16x8192, .f32⟩
  | 100 => ⟨S16x8192x1, .f32⟩
  | 101 => ⟨S16x8192x32, .f32⟩
  | 102 => ⟨S16x8192x32, .f32⟩
  | 103 => ⟨S16x8192x32, .i32⟩
  | 104 => ⟨S_, .f32⟩
  | 105 => ⟨S_, .i32⟩
  | 106 => ⟨S16x8192, .f32⟩
  | 107 => ⟨S16x8192, .i32⟩
  | 108 => ⟨S16x8192x1, .i32⟩
  | 109 => ⟨S1x1x32, .i32⟩
  | 110 => ⟨S16x8192x32, .i32⟩
  | 111 => ⟨S16x8192x32, .i32⟩
  | 112 => ⟨S16x8192x32, .i1⟩
  | 113 => ⟨S16x8192x32, .f32⟩
  | 114 => ⟨S16x8192x32, .f32⟩
  | 115 => ⟨S16x8192x32, .f32⟩
  | 116 => ⟨S16x1x32, .f32⟩
  | 117 => ⟨S16x8192x32, .f32⟩
  | 118 => ⟨S16x8192x32, .f32⟩
  | 119 => ⟨S1x8192x32, .f32⟩
  | 120 => ⟨S16x8192x32, .f32⟩
  | 121 => ⟨S16x8192x32, .f32⟩
  | 122 => ⟨S_, .f32⟩
  | 123 => ⟨S16x8192, .f32⟩
  | 124 => ⟨S8192x16, .f32⟩
  | _ => ⟨S8192x16, .f32⟩

abbrev hbmTy (i : Nat) : BufTy := match i / 128 with
  | 0 => hbmTy0_0 i
  | 1 => hbmTy0_1 i
  | 2 => hbmTy0_2 i
  | _ => ⟨S8192x16, .f32⟩

abbrev bufTy : (tb : Table) → Fin (tcTables nBuf tb) → BufTy
  | .hbm, ⟨i, _⟩ => hbmTy i
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_cst : Ref sig .tc := ⟨.hbm, 26, rfl⟩
abbrev main_call1_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call2_cst : Ref sig .tc := ⟨.hbm, 40, rfl⟩
abbrev main_call2_v0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call3_cst : Ref sig .tc := ⟨.hbm, 47, rfl⟩
abbrev main_call3_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c : Ref sig .tc := ⟨.hbm, 54, rfl⟩
abbrev main_c_0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_1 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst : Ref sig .tc := ⟨.hbm, 64, rfl⟩
abbrev main_cst_2 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_call4_v3 : Ref sig .tc := ⟨.hbm, 69, rfl⟩
abbrev main_call4_v4 : Ref sig .tc := ⟨.hbm, 70, rfl⟩
abbrev main_call4_v5 : Ref sig .tc := ⟨.hbm, 71, rfl⟩
abbrev main_call4_v6 : Ref sig .tc := ⟨.hbm, 72, rfl⟩
abbrev main_call4_v7 : Ref sig .tc := ⟨.hbm, 73, rfl⟩
abbrev main_call4_v8 : Ref sig .tc := ⟨.hbm, 74, rfl⟩
abbrev main_call4_v9 : Ref sig .tc := ⟨.hbm, 75, rfl⟩
abbrev main_call4_v10 : Ref sig .tc := ⟨.hbm, 76, rfl⟩
abbrev main_call4_c : Ref sig .tc := ⟨.hbm, 77, rfl⟩
abbrev main_call4_v11 : Ref sig .tc := ⟨.hbm, 78, rfl⟩
abbrev main_call4_v12 : Ref sig .tc := ⟨.hbm, 79, rfl⟩
abbrev main_call4_c_0 : Ref sig .tc := ⟨.hbm, 80, rfl⟩
abbrev main_call4_v13 : Ref sig .tc := ⟨.hbm, 81, rfl⟩
abbrev main_call4_v14 : Ref sig .tc := ⟨.hbm, 82, rfl⟩
abbrev main_call4_c_1 : Ref sig .tc := ⟨.hbm, 83, rfl⟩
abbrev main_call4_v15 : Ref sig .tc := ⟨.hbm, 84, rfl⟩
abbrev main_call4_v16 : Ref sig .tc := ⟨.hbm, 85, rfl⟩
abbrev main_call4_v17 : Ref sig .tc := ⟨.hbm, 86, rfl⟩
abbrev main_call4_v18 : Ref sig .tc := ⟨.hbm, 87, rfl⟩
abbrev main_call4_c_2 : Ref sig .tc := ⟨.hbm, 88, rfl⟩
abbrev main_call4_v19 : Ref sig .tc := ⟨.hbm, 89, rfl⟩
abbrev main_call4_v20 : Ref sig .tc := ⟨.hbm, 90, rfl⟩
abbrev main_call4_v21 : Ref sig .tc := ⟨.hbm, 91, rfl⟩
abbrev main_call4_v22 : Ref sig .tc := ⟨.hbm, 92, rfl⟩
abbrev main_call4_call0_v0 : Ref sig .tc := ⟨.hbm, 93, rfl⟩
abbrev main_call4_call0_c : Ref sig .tc := ⟨.hbm, 94, rfl⟩
abbrev main_call4_call0_v1 : Ref sig .tc := ⟨.hbm, 95, rfl⟩
abbrev main_call4_call0_v2 : Ref sig .tc := ⟨.hbm, 96, rfl⟩
abbrev main_call4_call0_v3 : Ref sig .tc := ⟨.hbm, 97, rfl⟩
abbrev main_call4_call0_v4 : Ref sig .tc := ⟨.hbm, 98, rfl⟩
abbrev main_call4_call0_v5 : Ref sig .tc := ⟨.hbm, 99, rfl⟩
abbrev main_call4_call0_v6 : Ref sig .tc := ⟨.hbm, 100, rfl⟩
abbrev main_call4_call0_c_0 : Ref sig .tc := ⟨.hbm, 101, rfl⟩
abbrev main_call4_call0_v7 : Ref sig .tc := ⟨.hbm, 102, rfl⟩
abbrev main_call4_call0_v8 : Ref sig .tc := ⟨.hbm, 103, rfl⟩
abbrev main_call4_call0_c_1 : Ref sig .tc := ⟨.hbm, 104, rfl⟩
abbrev main_call4_call0_v9 : Ref sig .tc := ⟨.hbm, 105, rfl⟩
abbrev main_call4_call0_v10 : Ref sig .tc := ⟨.hbm, 106, rfl⟩
abbrev main_call4_call0_v11 : Ref sig .tc := ⟨.hbm, 107, rfl⟩
abbrev main_call4_call0_v12 : Ref sig .tc := ⟨.hbm, 108, rfl⟩
abbrev main_call4_call0_v13 : Ref sig .tc := ⟨.hbm, 109, rfl⟩
abbrev main_call4_call0_c_2 : Ref sig .tc := ⟨.hbm, 110, rfl⟩
abbrev main_call4_call0_v14 : Ref sig .tc := ⟨.hbm, 111, rfl⟩
abbrev main_call4_call0_v15 : Ref sig .tc := ⟨.hbm, 112, rfl⟩
abbrev main_call4_call0_c_3 : Ref sig .tc := ⟨.hbm, 113, rfl⟩
abbrev main_call4_call0_v16 : Ref sig .tc := ⟨.hbm, 114, rfl⟩
abbrev main_call4_call0_v17 : Ref sig .tc := ⟨.hbm, 115, rfl⟩
abbrev main_call4_call0_v18 : Ref sig .tc := ⟨.hbm, 116, rfl⟩
abbrev main_call4_call0_v19 : Ref sig .tc := ⟨.hbm, 117, rfl⟩
abbrev main_call4_call0_v20 : Ref sig .tc := ⟨.hbm, 118, rfl⟩
abbrev main_call4_call0_c_4 : Ref sig .tc := ⟨.hbm, 119, rfl⟩
abbrev main_call4_call0_v21 : Ref sig .tc := ⟨.hbm, 120, rfl⟩
abbrev main_call4_call0_v22 : Ref sig .tc := ⟨.hbm, 121, rfl⟩
abbrev main_call4_call0_c_5 : Ref sig .tc := ⟨.hbm, 122, rfl⟩
abbrev main_call4_call0_v23 : Ref sig .tc := ⟨.hbm, 123, rfl⟩
abbrev main_call4_call0_v24 : Ref sig .tc := ⟨.hbm, 124, rfl⟩
abbrev main_call4_call0_v25 : Ref sig .tc := ⟨.hbm, 125, rfl⟩
abbrev main_call4_call0_v26 : Ref sig .tc := ⟨.hbm, 126, rfl⟩
abbrev main_call4_call0_v27 : Ref sig .tc := ⟨.hbm, 127, rfl⟩
abbrev main_call4_call0_c_6 : Ref sig .tc := ⟨.hbm, 128, rfl⟩
abbrev main_call4_call0_v28 : Ref sig .tc := ⟨.hbm, 129, rfl⟩
abbrev main_call4_call0_v29 : Ref sig .tc := ⟨.hbm, 130, rfl⟩
abbrev main_call4_call0_c_7 : Ref sig .tc := ⟨.hbm, 131, rfl⟩
abbrev main_call4_call0_v30 : Ref sig .tc := ⟨.hbm, 132, rfl⟩
abbrev main_call4_call0_v31 : Ref sig .tc := ⟨.hbm, 133, rfl⟩
abbrev main_call4_call0_v32 : Ref sig .tc := ⟨.hbm, 134, rfl⟩
abbrev main_call4_call0_v33 : Ref sig .tc := ⟨.hbm, 135, rfl⟩
abbrev main_call4_call0_v34 : Ref sig .tc := ⟨.hbm, 136, rfl⟩
abbrev main_call4_call0_v35 : Ref sig .tc := ⟨.hbm, 137, rfl⟩
abbrev main_call4_call0_v36 : Ref sig .tc := ⟨.hbm, 138, rfl⟩
abbrev main_call4_call0_v37 : Ref sig .tc := ⟨.hbm, 139, rfl⟩
abbrev main_call4_call0_c_8 : Ref sig .tc := ⟨.hbm, 140, rfl⟩
abbrev main_call4_call0_v38 : Ref sig .tc := ⟨.hbm, 141, rfl⟩
abbrev main_call4_call0_v39 : Ref sig .tc := ⟨.hbm, 142, rfl⟩
abbrev main_call4_call0_v40 : Ref sig .tc := ⟨.hbm, 143, rfl⟩
abbrev main_call4_call0_c_9 : Ref sig .tc := ⟨.hbm, 144, rfl⟩
abbrev main_call4_call0_v41 : Ref sig .tc := ⟨.hbm, 145, rfl⟩
abbrev main_call4_call0_v42 : Ref sig .tc := ⟨.hbm, 146, rfl⟩
abbrev main_call4_call0_c_10 : Ref sig .tc := ⟨.hbm, 147, rfl⟩
abbrev main_call4_call0_v43 : Ref sig .tc := ⟨.hbm, 148, rfl⟩
abbrev main_call4_call0_v44 : Ref sig .tc := ⟨.hbm, 149, rfl⟩
abbrev main_call4_call0_v45 : Ref sig .tc := ⟨.hbm, 150, rfl⟩
abbrev main_call4_call0_v46 : Ref sig .tc := ⟨.hbm, 151, rfl⟩
abbrev main_call4_call0_v47 : Ref sig .tc := ⟨.hbm, 152, rfl⟩
abbrev main_call4_call0_c_11 : Ref sig .tc := ⟨.hbm, 153, rfl⟩
abbrev main_call4_call0_v48 : Ref sig .tc := ⟨.hbm, 154, rfl⟩
abbrev main_call4_call0_v49 : Ref sig .tc := ⟨.hbm, 155, rfl⟩
abbrev main_call4_call0_c_12 : Ref sig .tc := ⟨.hbm, 156, rfl⟩
abbrev main_call4_call0_v50 : Ref sig .tc := ⟨.hbm, 157, rfl⟩
abbrev main_call4_call0_v51 : Ref sig .tc := ⟨.hbm, 158, rfl⟩
abbrev main_call4_call0_v52 : Ref sig .tc := ⟨.hbm, 159, rfl⟩
abbrev main_call4_call0_v53 : Ref sig .tc := ⟨.hbm, 160, rfl⟩
abbrev main_call4_call0_v54 : Ref sig .tc := ⟨.hbm, 161, rfl⟩
abbrev main_call4_call0_c_13 : Ref sig .tc := ⟨.hbm, 162, rfl⟩
abbrev main_call4_call0_v55 : Ref sig .tc := ⟨.hbm, 163, rfl⟩
abbrev main_call4_call0_v56 : Ref sig .tc := ⟨.hbm, 164, rfl⟩
abbrev main_call4_call0_c_14 : Ref sig .tc := ⟨.hbm, 165, rfl⟩
abbrev main_call4_call0_v57 : Ref sig .tc := ⟨.hbm, 166, rfl⟩
abbrev main_call4_call0_v58 : Ref sig .tc := ⟨.hbm, 167, rfl⟩
abbrev main_call4_call0_v59 : Ref sig .tc := ⟨.hbm, 168, rfl⟩
abbrev main_call4_call0_v60 : Ref sig .tc := ⟨.hbm, 169, rfl⟩
abbrev main_call4_call0_v61 : Ref sig .tc := ⟨.hbm, 170, rfl⟩
abbrev main_call4_call0_c_15 : Ref sig .tc := ⟨.hbm, 171, rfl⟩
abbrev main_call4_call0_v62 : Ref sig .tc := ⟨.hbm, 172, rfl⟩
abbrev main_call4_call0_v63 : Ref sig .tc := ⟨.hbm, 173, rfl⟩
abbrev main_call4_call0_c_16 : Ref sig .tc := ⟨.hbm, 174, rfl⟩
abbrev main_call4_call0_v64 : Ref sig .tc := ⟨.hbm, 175, rfl⟩
abbrev main_call4_call0_v65 : Ref sig .tc := ⟨.hbm, 176, rfl⟩
abbrev main_call4_call0_v66 : Ref sig .tc := ⟨.hbm, 177, rfl⟩
abbrev main_call4_call0_v67 : Ref sig .tc := ⟨.hbm, 178, rfl⟩
abbrev main_call4_call0_v68 : Ref sig .tc := ⟨.hbm, 179, rfl⟩
abbrev main_call4_call0_v69 : Ref sig .tc := ⟨.hbm, 180, rfl⟩
abbrev main_call4_call0_v70 : Ref sig .tc := ⟨.hbm, 181, rfl⟩
abbrev main_call4_call0_v71 : Ref sig .tc := ⟨.hbm, 182, rfl⟩
abbrev main_call4_call0_c_17 : Ref sig .tc := ⟨.hbm, 183, rfl⟩
abbrev main_call4_call0_v72 : Ref sig .tc := ⟨.hbm, 184, rfl⟩
abbrev main_call4_call0_v73 : Ref sig .tc := ⟨.hbm, 185, rfl⟩
abbrev main_call4_call0_v74 : Ref sig .tc := ⟨.hbm, 186, rfl⟩
abbrev main_call4_call0_c_18 : Ref sig .tc := ⟨.hbm, 187, rfl⟩
abbrev main_call4_call0_v75 : Ref sig .tc := ⟨.hbm, 188, rfl⟩
abbrev main_call4_call0_v76 : Ref sig .tc := ⟨.hbm, 189, rfl⟩
abbrev main_call4_call0_c_19 : Ref sig .tc := ⟨.hbm, 190, rfl⟩
abbrev main_call4_call0_v77 : Ref sig .tc := ⟨.hbm, 191, rfl⟩
abbrev main_call4_call0_v78 : Ref sig .tc := ⟨.hbm, 192, rfl⟩
abbrev main_call4_call0_v79 : Ref sig .tc := ⟨.hbm, 193, rfl⟩
abbrev main_call4_call0_v80 : Ref sig .tc := ⟨.hbm, 194, rfl⟩
abbrev main_call4_call0_v81 : Ref sig .tc := ⟨.hbm, 195, rfl⟩
abbrev main_call4_call0_c_20 : Ref sig .tc := ⟨.hbm, 196, rfl⟩
abbrev main_call4_call0_v82 : Ref sig .tc := ⟨.hbm, 197, rfl⟩
abbrev main_call4_call0_v83 : Ref sig .tc := ⟨.hbm, 198, rfl⟩
abbrev main_call4_call0_c_21 : Ref sig .tc := ⟨.hbm, 199, rfl⟩
abbrev main_call4_call0_v84 : Ref sig .tc := ⟨.hbm, 200, rfl⟩
abbrev main_call4_call0_v85 : Ref sig .tc := ⟨.hbm, 201, rfl⟩
abbrev main_call4_call0_v86 : Ref sig .tc := ⟨.hbm, 202, rfl⟩
abbrev main_call4_call0_v87 : Ref sig .tc := ⟨.hbm, 203, rfl⟩
abbrev main_call4_call0_v88 : Ref sig .tc := ⟨.hbm, 204, rfl⟩
abbrev main_call4_call0_c_22 : Ref sig .tc := ⟨.hbm, 205, rfl⟩
abbrev main_call4_call0_v89 : Ref sig .tc := ⟨.hbm, 206, rfl⟩
abbrev main_call4_call0_v90 : Ref sig .tc := ⟨.hbm, 207, rfl⟩
abbrev main_call4_call0_c_23 : Ref sig .tc := ⟨.hbm, 208, rfl⟩
abbrev main_call4_call0_v91 : Ref sig .tc := ⟨.hbm, 209, rfl⟩
abbrev main_call4_call0_v92 : Ref sig .tc := ⟨.hbm, 210, rfl⟩
abbrev main_call4_call0_v93 : Ref sig .tc := ⟨.hbm, 211, rfl⟩
abbrev main_call4_call0_v94 : Ref sig .tc := ⟨.hbm, 212, rfl⟩
abbrev main_call4_call0_v95 : Ref sig .tc := ⟨.hbm, 213, rfl⟩
abbrev main_call4_call0_c_24 : Ref sig .tc := ⟨.hbm, 214, rfl⟩
abbrev main_call4_call0_v96 : Ref sig .tc := ⟨.hbm, 215, rfl⟩
abbrev main_call4_call0_v97 : Ref sig .tc := ⟨.hbm, 216, rfl⟩
abbrev main_call4_call0_c_25 : Ref sig .tc := ⟨.hbm, 217, rfl⟩
abbrev main_call4_call0_v98 : Ref sig .tc := ⟨.hbm, 218, rfl⟩
abbrev main_call4_call0_v99 : Ref sig .tc := ⟨.hbm, 219, rfl⟩
abbrev main_call4_call0_v100 : Ref sig .tc := ⟨.hbm, 220, rfl⟩
abbrev main_call4_call0_v101 : Ref sig .tc := ⟨.hbm, 221, rfl⟩
abbrev main_call4_call0_v102 : Ref sig .tc := ⟨.hbm, 222, rfl⟩
abbrev main_call4_call0_v103 : Ref sig .tc := ⟨.hbm, 223, rfl⟩
abbrev main_call4_call0_v104 : Ref sig .tc := ⟨.hbm, 224, rfl⟩
abbrev main_call4_call0_v105 : Ref sig .tc := ⟨.hbm, 225, rfl⟩
abbrev main_call4_call0_c_26 : Ref sig .tc := ⟨.hbm, 226, rfl⟩
abbrev main_call4_call0_v106 : Ref sig .tc := ⟨.hbm, 227, rfl⟩
abbrev main_call4_call0_v107 : Ref sig .tc := ⟨.hbm, 228, rfl⟩
abbrev main_call4_call0_v108 : Ref sig .tc := ⟨.hbm, 229, rfl⟩
abbrev main_call4_call0_c_27 : Ref sig .tc := ⟨.hbm, 230, rfl⟩
abbrev main_call4_call0_v109 : Ref sig .tc := ⟨.hbm, 231, rfl⟩
abbrev main_call4_call0_v110 : Ref sig .tc := ⟨.hbm, 232, rfl⟩
abbrev main_call4_call0_c_28 : Ref sig .tc := ⟨.hbm, 233, rfl⟩
abbrev main_call4_call0_v111 : Ref sig .tc := ⟨.hbm, 234, rfl⟩
abbrev main_call4_call0_v112 : Ref sig .tc := ⟨.hbm, 235, rfl⟩
abbrev main_call4_call0_v113 : Ref sig .tc := ⟨.hbm, 236, rfl⟩
abbrev main_call4_call0_v114 : Ref sig .tc := ⟨.hbm, 237, rfl⟩
abbrev main_call4_call0_v115 : Ref sig .tc := ⟨.hbm, 238, rfl⟩
abbrev main_call4_call0_c_29 : Ref sig .tc := ⟨.hbm, 239, rfl⟩
abbrev main_call4_call0_v116 : Ref sig .tc := ⟨.hbm, 240, rfl⟩
abbrev main_call4_call0_v117 : Ref sig .tc := ⟨.hbm, 241, rfl⟩
abbrev main_call4_call0_c_30 : Ref sig .tc := ⟨.hbm, 242, rfl⟩
abbrev main_call4_call0_v118 : Ref sig .tc := ⟨.hbm, 243, rfl⟩
abbrev main_call4_call0_v119 : Ref sig .tc := ⟨.hbm, 244, rfl⟩
abbrev main_call4_call0_v120 : Ref sig .tc := ⟨.hbm, 245, rfl⟩
abbrev main_call4_call0_v121 : Ref sig .tc := ⟨.hbm, 246, rfl⟩
abbrev main_call4_call0_v122 : Ref sig .tc := ⟨.hbm, 247, rfl⟩
abbrev main_call4_call0_c_31 : Ref sig .tc := ⟨.hbm, 248, rfl⟩
abbrev main_call4_call0_v123 : Ref sig .tc := ⟨.hbm, 249, rfl⟩
abbrev main_call4_call0_v124 : Ref sig .tc := ⟨.hbm, 250, rfl⟩
abbrev main_call4_call0_c_32 : Ref sig .tc := ⟨.hbm, 251, rfl⟩
abbrev main_call4_call0_v125 : Ref sig .tc := ⟨.hbm, 252, rfl⟩
abbrev main_call4_call0_v126 : Ref sig .tc := ⟨.hbm, 253, rfl⟩
abbrev main_call4_call0_v127 : Ref sig .tc := ⟨.hbm, 254, rfl⟩
abbrev main_call4_call0_v128 : Ref sig .tc := ⟨.hbm, 255, rfl⟩
abbrev main_call4_call0_v129 : Ref sig .tc := ⟨.hbm, 256, rfl⟩
abbrev main_call4_call0_c_33 : Ref sig .tc := ⟨.hbm, 257, rfl⟩
abbrev main_call4_call0_v130 : Ref sig .tc := ⟨.hbm, 258, rfl⟩
abbrev main_call4_call0_v131 : Ref sig .tc := ⟨.hbm, 259, rfl⟩
abbrev main_call4_call0_c_34 : Ref sig .tc := ⟨.hbm, 260, rfl⟩
abbrev main_call4_call0_v132 : Ref sig .tc := ⟨.hbm, 261, rfl⟩
abbrev main_call4_call0_v133 : Ref sig .tc := ⟨.hbm, 262, rfl⟩
abbrev main_call4_call0_v134 : Ref sig .tc := ⟨.hbm, 263, rfl⟩
abbrev main_call4_call0_v135 : Ref sig .tc := ⟨.hbm, 264, rfl⟩
abbrev main_call4_call0_v136 : Ref sig .tc := ⟨.hbm, 265, rfl⟩
abbrev main_call4_call0_v137 : Ref sig .tc := ⟨.hbm, 266, rfl⟩
abbrev main_call4_call0_v138 : Ref sig .tc := ⟨.hbm, 267, rfl⟩
abbrev main_call4_call0_v139 : Ref sig .tc := ⟨.hbm, 268, rfl⟩
abbrev main_call4_call0_c_35 : Ref sig .tc := ⟨.hbm, 269, rfl⟩
abbrev main_call4_call0_v140 : Ref sig .tc := ⟨.hbm, 270, rfl⟩
abbrev main_call4_call0_v141 : Ref sig .tc := ⟨.hbm, 271, rfl⟩
abbrev main_call4_call0_v142 : Ref sig .tc := ⟨.hbm, 272, rfl⟩
abbrev main_call4_call0_c_36 : Ref sig .tc := ⟨.hbm, 273, rfl⟩
abbrev main_call4_call0_v143 : Ref sig .tc := ⟨.hbm, 274, rfl⟩
abbrev main_call4_call0_v144 : Ref sig .tc := ⟨.hbm, 275, rfl⟩
abbrev main_call4_call0_c_37 : Ref sig .tc := ⟨.hbm, 276, rfl⟩
abbrev main_call4_call0_v145 : Ref sig .tc := ⟨.hbm, 277, rfl⟩
abbrev main_call4_call0_v146 : Ref sig .tc := ⟨.hbm, 278, rfl⟩
abbrev main_call4_call0_v147 : Ref sig .tc := ⟨.hbm, 279, rfl⟩
abbrev main_call4_call0_v148 : Ref sig .tc := ⟨.hbm, 280, rfl⟩
abbrev main_call4_call0_v149 : Ref sig .tc := ⟨.hbm, 281, rfl⟩
abbrev main_call4_call0_c_38 : Ref sig .tc := ⟨.hbm, 282, rfl⟩
abbrev main_call4_call0_v150 : Ref sig .tc := ⟨.hbm, 283, rfl⟩
abbrev main_call4_call0_v151 : Ref sig .tc := ⟨.hbm, 284, rfl⟩
abbrev main_call4_call0_c_39 : Ref sig .tc := ⟨.hbm, 285, rfl⟩
abbrev main_call4_call0_v152 : Ref sig .tc := ⟨.hbm, 286, rfl⟩
abbrev main_call4_call0_v153 : Ref sig .tc := ⟨.hbm, 287, rfl⟩
abbrev main_call4_call0_v154 : Ref sig .tc := ⟨.hbm, 288, rfl⟩
abbrev main_call4_call0_v155 : Ref sig .tc := ⟨.hbm, 289, rfl⟩
abbrev main_call4_call0_v156 : Ref sig .tc := ⟨.hbm, 290, rfl⟩
abbrev main_call4_call0_c_40 : Ref sig .tc := ⟨.hbm, 291, rfl⟩
abbrev main_call4_call0_v157 : Ref sig .tc := ⟨.hbm, 292, rfl⟩
abbrev main_call4_call0_v158 : Ref sig .tc := ⟨.hbm, 293, rfl⟩
abbrev main_call4_call0_c_41 : Ref sig .tc := ⟨.hbm, 294, rfl⟩
abbrev main_call4_call0_v159 : Ref sig .tc := ⟨.hbm, 295, rfl⟩
abbrev main_call4_call0_v160 : Ref sig .tc := ⟨.hbm, 296, rfl⟩
abbrev main_call4_call0_v161 : Ref sig .tc := ⟨.hbm, 297, rfl⟩
abbrev main_call4_call0_v162 : Ref sig .tc := ⟨.hbm, 298, rfl⟩
abbrev main_call4_call0_v163 : Ref sig .tc := ⟨.hbm, 299, rfl⟩
abbrev main_call4_call0_c_42 : Ref sig .tc := ⟨.hbm, 300, rfl⟩
abbrev main_call4_call0_v164 : Ref sig .tc := ⟨.hbm, 301, rfl⟩
abbrev main_call4_call0_v165 : Ref sig .tc := ⟨.hbm, 302, rfl⟩
abbrev main_call4_call0_c_43 : Ref sig .tc := ⟨.hbm, 303, rfl⟩
abbrev main_call4_call0_v166 : Ref sig .tc := ⟨.hbm, 304, rfl⟩
abbrev main_call4_call0_v167 : Ref sig .tc := ⟨.hbm, 305, rfl⟩
abbrev main_call4_call0_v168 : Ref sig .tc := ⟨.hbm, 306, rfl⟩
abbrev main_call4_call0_v169 : Ref sig .tc := ⟨.hbm, 307, rfl⟩
abbrev main_call4_call0_v170 : Ref sig .tc := ⟨.hbm, 308, rfl⟩
abbrev main_call4_v23_0 : Ref sig .tc := ⟨.hbm, 309, rfl⟩
abbrev main_call4_call0_v172 : Ref sig .tc := ⟨.hbm, 310, rfl⟩
abbrev main_call4_call0_v173 : Ref sig .tc := ⟨.hbm, 311, rfl⟩
abbrev main_call4_call0_c_44 : Ref sig .tc := ⟨.hbm, 312, rfl⟩
abbrev main_call4_call0_v174 : Ref sig .tc := ⟨.hbm, 313, rfl⟩
abbrev main_call4_v23_1 : Ref sig .tc := ⟨.hbm, 314, rfl⟩
abbrev main_call4_v24 : Ref sig .tc := ⟨.hbm, 315, rfl⟩
abbrev main_call4_c_3 : Ref sig .tc := ⟨.hbm, 316, rfl⟩
abbrev main_call4_v25 : Ref sig .tc := ⟨.hbm, 317, rfl⟩
abbrev main_call4_v26 : Ref sig .tc := ⟨.hbm, 318, rfl⟩
abbrev main_call4_c_4 : Ref sig .tc := ⟨.hbm, 319, rfl⟩
abbrev main_call4_v27 : Ref sig .tc := ⟨.hbm, 320, rfl⟩
abbrev main_call4_v28 : Ref sig .tc := ⟨.hbm, 321, rfl⟩
abbrev main_call4_v29 : Ref sig .tc := ⟨.hbm, 322, rfl⟩
abbrev main_call4_cst : Ref sig .tc := ⟨.hbm, 323, rfl⟩
abbrev main_call4_v30 : Ref sig .tc := ⟨.hbm, 324, rfl⟩
abbrev main_call4_v31 : Ref sig .tc := ⟨.hbm, 325, rfl⟩
abbrev main_call4_v32 : Ref sig .tc := ⟨.hbm, 326, rfl⟩
abbrev main_call4_v33 : Ref sig .tc := ⟨.hbm, 327, rfl⟩
abbrev main_call4_v34 : Ref sig .tc := ⟨.hbm, 328, rfl⟩
abbrev main_call4_v35 : Ref sig .tc := ⟨.hbm, 329, rfl⟩
abbrev main_call4_v36 : Ref sig .tc := ⟨.hbm, 330, rfl⟩
abbrev main_call4_v37 : Ref sig .tc := ⟨.hbm, 331, rfl⟩
abbrev main_v39 : Ref sig .tc := ⟨.hbm, 332, rfl⟩
abbrev main_cst_3 : Ref sig .tc := ⟨.hbm, 333, rfl⟩
abbrev main_call5_v0 : Ref sig .tc := ⟨.hbm, 334, rfl⟩
abbrev main_call5_v1 : Ref sig .tc := ⟨.hbm, 335, rfl⟩
abbrev main_v40 : Ref sig .tc := ⟨.hbm, 336, rfl⟩
abbrev main_v41 : Ref sig .tc := ⟨.hbm, 337, rfl⟩
abbrev main_v42 : Ref sig .tc := ⟨.hbm, 338, rfl⟩
abbrev main_v43 : Ref sig .tc := ⟨.hbm, 339, rfl⟩
abbrev main_v44 : Ref sig .tc := ⟨.hbm, 340, rfl⟩
abbrev main_v45 : Ref sig .tc := ⟨.hbm, 341, rfl⟩
abbrev main_cst_4 : Ref sig .tc := ⟨.hbm, 342, rfl⟩
abbrev main_v46 : Ref sig .tc := ⟨.hbm, 343, rfl⟩
abbrev main_v47 : Ref sig .tc := ⟨.hbm, 344, rfl⟩
abbrev main_cst_5 : Ref sig .tc := ⟨.hbm, 345, rfl⟩
abbrev main_v48 : Ref sig .tc := ⟨.hbm, 346, rfl⟩
abbrev main_cst_6 : Ref sig .tc := ⟨.hbm, 347, rfl⟩
abbrev main_v49 : Ref sig .tc := ⟨.hbm, 348, rfl⟩
abbrev main_v50 : Ref sig .tc := ⟨.hbm, 349, rfl⟩
abbrev main_v51 : Ref sig .tc := ⟨.hbm, 350, rfl⟩
abbrev main_v52 : Ref sig .tc := ⟨.hbm, 351, rfl⟩
abbrev main_v53 : Ref sig .tc := ⟨.hbm, 352, rfl⟩
abbrev main_v54 : Ref sig .tc := ⟨.hbm, 353, rfl⟩
abbrev main_cst_7 : Ref sig .tc := ⟨.hbm, 354, rfl⟩
abbrev main_v55 : Ref sig .tc := ⟨.hbm, 355, rfl⟩
abbrev main_v56 : Ref sig .tc := ⟨.hbm, 356, rfl⟩
abbrev main_v57 : Ref sig .tc := ⟨.hbm, 357, rfl⟩
abbrev main_v58 : Ref sig .tc := ⟨.hbm, 358, rfl⟩
abbrev main_call6_v0 : Ref sig .tc := ⟨.hbm, 359, rfl⟩
abbrev main_call6_cst : Ref sig .tc := ⟨.hbm, 360, rfl⟩
abbrev main_call6_c : Ref sig .tc := ⟨.hbm, 361, rfl⟩
abbrev main_call6_v1_0 : Ref sig .tc := ⟨.hbm, 362, rfl⟩
abbrev main_v59 : Ref sig .tc := ⟨.hbm, 363, rfl⟩
abbrev main_call7_v0 : Ref sig .tc := ⟨.hbm, 364, rfl⟩
abbrev main_call7_v1 : Ref sig .tc := ⟨.hbm, 365, rfl⟩
abbrev main_call7_v2 : Ref sig .tc := ⟨.hbm, 366, rfl⟩
abbrev main_call7_v3 : Ref sig .tc := ⟨.hbm, 367, rfl⟩
abbrev main_call7_v4 : Ref sig .tc := ⟨.hbm, 368, rfl⟩
abbrev main_v60 : Ref sig .tc := ⟨.hbm, 369, rfl⟩
abbrev main_v61 : Ref sig .tc := ⟨.hbm, 370, rfl⟩
abbrev main_v62 : Ref sig .tc := ⟨.hbm, 371, rfl⟩
abbrev main_v63 : Ref sig .tc := ⟨.hbm, 372, rfl⟩
abbrev main_v64 : Ref sig .tc := ⟨.hbm, 373, rfl⟩
abbrev main_v65 : Ref sig .tc := ⟨.hbm, 374, rfl⟩
abbrev main_v66 : Ref sig .tc := ⟨.hbm, 375, rfl⟩
abbrev main_v67 : Ref sig .tc := ⟨.hbm, 376, rfl⟩
abbrev main_v68 : Ref sig .tc := ⟨.hbm, 377, rfl⟩
abbrev main_cst_8 : Ref sig .tc := ⟨.hbm, 378, rfl⟩
abbrev main_v69 : Ref sig .tc := ⟨.hbm, 379, rfl⟩
abbrev main_v70 : Ref sig .tc := ⟨.hbm, 380, rfl⟩

abbrev nD : Nat := 1
abbrev τ : Topo := Topo.v7x

variable {F : FTy → Type} [FloatOps F]
-- ==== Proof.Block.lean ====
/-
  What one grid point of the kernel computes, as plain functions of its input blocks: a library network is a column
  (`k0_pay5`, the printed body's first), the thirty-two columns side by side are `mlpB`; a router's noisy logits are
  `scores`, the one-hot of their first maximum `hot`; the point's two results are `gatesB` and `dxdtB`. `run15` and `run16`
  say that the run's pieces are these functions of the loads.
-/
module

public import proofs.«01_k».proof.Proof.Gen.KernelIdeal.Value
public import Idealize.ShloMosaic.Lib.Pipeline.Regions

@[expose] public section

set_option maxRecDepth 65536

noncomputable section

namespace Cert.Proof.Block

open Cert.KernelIdeal Cert.KernelIdeal.Gen
open Idealize.ShloMosaic Idealize.ShloMosaic.TcCoe Idealize.SL.Sem

variable {F : FTy → Type} [FloatOps F]

theorem concat32 {α : Type} (f : Fin 32 → S512x1.Idx → α) :
    Shape.Concatenates ((List.ofFn fun n : Fin 32 => (⟨S512x1, f n⟩ : (s : Shape) × (s.Idx → α))).map (·.1)) S512x32 1 := by
  rw [List.map_ofFn]
  exact (by decide : Shape.Concatenates (List.ofFn fun _ : Fin 32 => S512x1) S512x32 1)

theorem concat16 {α : Type} (f : Fin 16 → S512x32.Idx → α) :
    Shape.Concatenates ((List.ofFn fun n : Fin 16 => (⟨S512x32, f n⟩ : (s : Shape) × (s.Idx → α))).map (·.1)) S512x512 1 := by
  rw [List.map_ofFn]
  exact (by decide : Shape.Concatenates (List.ofFn fun _ : Fin 16 => S512x32) S512x512 1)

/-- The library networks' outputs at a block of rows: one column a network. -/
def mlpB (x : Vec F S512x16 .f32) (w1 : Fin 32 → Vec F S1x16x256 .bf16) (b1 : Fin 32 → Vec F S1x256 .bf16)
    (w2 : Fin 32 → Vec F S1x256x256 .bf16) (b2 : Fin 32 → Vec F S1x256 .bf16) (w3 : Fin 32 → Vec F S1x256x1 .bf16)
    (b3 : Fin 32 → Vec F S1x1 .f32) : FVec F S512x32 .f32 :=
  shapeCast S512x32 (concatenate S512x32 1
    (List.ofFn fun n : Fin 32 => ⟨S512x1, k0_pay5 x (w1 n) (b1 n) (w2 n) (b2 n) (w3 n) (b3 n)⟩) (concat32 _)) shapeCasts_S512x32_S512x32

/-- A router's logits with the noise added, at a block of rows. -/
def scores (x : Vec F S512x16 .f32) (w1 : Vec F S1x16x256 .f32) (b1 : Vec F S1x256 .f32) (w2 : Vec F S1x256x256 .f32)
    (b2 : Vec F S1x256 .f32) (w3 : Vec F S1x256x32 .f32) (b3 : Vec F S1x32 .f32) (g : Vec F S1x512x32 .f32) : FVec F S512x32 .f32 :=
  let h1 := maximumf (addf (matmul dot_S512x16_S16x256_S512x256_1_0_0_1_n_n none x (shapeCast S16x256 w1 shapeCasts_S1x16x256_S16x256)
    (constant S512x256 .f32 0x00000000#32)) (broadcastTo S512x256 b1 broadcasts_S1x256_S512x256)) (broadcast S512x256 (FloatOps.ofBits .f32 0x00000000#32))
  let h2 := maximumf (addf (matmul dot_S512x256_S256x256_S512x256_1_0_0_1_n_n none h1 (shapeCast S256x256 w2 shapeCasts_S1x256x256_S256x256)
    (constant S512x256 .f32 0x00000000#32)) (broadcastTo S512x256 b2 broadcasts_S1x256_S512x256)) (broadcast S512x256 (FloatOps.ofBits .f32 0x00000000#32))
  addf (addf (matmul dot_S512x256_S256x32_S512x32_1_0_0_1_n_n none h2 (shapeCast S256x32 w3 shapeCasts_S1x256x32_S256x32)
    (constant S512x32 .f32 0x00000000#32)) (broadcastTo S512x32 b3 broadcasts_S1x32_S512x32)) (shapeCast S512x32 g shapeCasts_S1x512x32_S512x32)

/-- The lane of each element. -/
def lane : IVec S512x32 32 := iota .tc S512x32 32 [1] iota_S512x32_d1_w32

/-- The one-hot of each row's first maximum. -/
def hot (z : FVec F S512x32 .f32) : FVec F S512x32 .f32 :=
  let mx := broadcastTo S512x32 (shapeCast S512x1 (multiReduction .maximumf [1] S512 z 0xFF800000#32 reduces_S512x32_S512 (.inl rfl) rfl)
    shapeCasts_S512_S512x1) broadcasts_S512x1_S512x32
  let ix := multiReductionI .minsi [1] S512 (select (cmpf .oge z mx) lane (broadcast S512x32 32#32)) 2147483647#32 reduces_S512x32_S512 rfl
  k0_pay1 (cmpi .eq lane (broadcastTo S512x32 (shapeCast S512x1 ix shapeCasts_S512_S512x1) broadcasts_S512x1_S512x32))

/-- The gated library summed against the block-diagonal coefficients. -/
def dxdtB (z : Fin 16 → FVec F S512x32 .f32) (mlp : FVec F S512x32 .f32) (cbd : Vec F S512x16 .f32) : FVec F S512x16 .f32 :=
  k0_pay3 (concatenate S512x512 1 (List.ofFn fun r : Fin 16 => ⟨S512x32, mulf (hot (z r)) mlp⟩) (concat16 _)) cbd

/-! The rectangles the body loads at, one per network or router. -/

theorem inb_w1 (n : Fin 32) : ∀ a, (![n.val, 0, 0] : Fin 3 → Nat) a + S1x16x256.size a ≤ S32x16x256.size a := by
  intro a; have := n.isLt; fin_cases a <;> simp <;> omega
theorem inb_b (n : Fin 32) : ∀ a, (![n.val, 0] : Fin 2 → Nat) a + S1x256.size a ≤ S32x256.size a := by
  intro a; have := n.isLt; fin_cases a <;> simp <;> omega
theorem inb_w2 (n : Fin 32) : ∀ a, (![n.val, 0, 0] : Fin 3 → Nat) a + S1x256x256.size a ≤ S32x256x256.size a := by
  intro a; have := n.isLt; fin_cases a <;> simp <;> omega
theorem inb_w3 (n : Fin 32) : ∀ a, (![n.val, 0, 0] : Fin 3 → Nat) a + S1x256x1.size a ≤ S32x256x1.size a := by
  intro a; have := n.isLt; fin_cases a <;> simp <;> omega
theorem inb_b3 (n : Fin 32) : ∀ a, (![n.val, 0] : Fin 2 → Nat) a + S1x1.size a ≤ S32x1.size a := by
  intro a; have := n.isLt; fin_cases a <;> simp <;> omega
theorem inb_rw1 (n : Fin 16) : ∀ a, (![n.val, 0, 0] : Fin 3 → Nat) a + S1x16x256.size a ≤ S16x16x256.size a := by
  intro a; have := n.isLt; fin_cases a <;> simp <;> omega
theorem inb_rb (n : Fin 16) : ∀ a, (![n.val, 0] : Fin 2 → Nat) a + S1x256.size a ≤ S16x256.size a := by
  intro a; have := n.isLt; fin_cases a <;> simp <;> omega
theorem inb_rw2 (n : Fin 16) : ∀ a, (![n.val, 0, 0] : Fin 3 → Nat) a + S1x256x256.size a ≤ S16x256x256.size a := by
  intro a; have := n.isLt; fin_cases a <;> simp <;> omega
theorem inb_rw3 (n : Fin 16) : ∀ a, (![n.val, 0, 0] : Fin 3 → Nat) a + S1x256x32.size a ≤ S16x256x32.size a := by
  intro a; have := n.isLt; fin_cases a <;> simp <;> omega
theorem inb_rb3 (n : Fin 16) : ∀ a, (![n.val, 0] : Fin 2 → Nat) a + S1x32.size a ≤ S16x32.size a := by
  intro a; have := n.isLt; fin_cases a <;> simp <;> omega
theorem inb_g (n : Fin 16) : ∀ a, (![n.val, 0, 0] : Fin 3 → Nat) a + S1x512x32.size a ≤ S16x512x32.size a := by
  intro a; have := n.isLt; fin_cases a <;> simp <;> omega

section Run

variable (c : Dev nD) (i : grid0.Coords)
  (arg1 : Memref sig .tc .vmem S512x16 .f32) (harg1 : arg1.IsWhole) (arg2 : Memref sig .tc .vmem S16x512x32 .f32) (harg2 : arg2.IsWhole)
  (arg3 : Memref sig .tc .vmem S32x16x256 .bf16) (harg3 : arg3.IsWhole) (arg4 : Memref sig .tc .vmem S32x256 .bf16) (harg4 : arg4.IsWhole)
  (arg5 : Memref sig .tc .vmem S32x256x256 .bf16) (harg5 : arg5.IsWhole) (arg6 : Memref sig .tc .vmem S32x256 .bf16) (harg6 : arg6.IsWhole)
  (arg7 : Memref sig .tc .vmem S32x256x1 .bf16) (harg7 : arg7.IsWhole) (arg8 : Memref sig .tc .vmem S32x1 .f32) (harg8 : arg8.IsWhole)
  (arg9 : Memref sig .tc .vmem S16x16x256 .f32) (harg9 : arg9.IsWhole) (arg10 : Memref sig .tc .vmem S16x256 .f32) (harg10 : arg10.IsWhole)
  (arg11 : Memref sig .tc .vmem S16x256x256 .f32) (harg11 : arg11.IsWhole) (arg12 : Memref sig .tc .vmem S16x256 .f32) (harg12 : arg12.IsWhole)
  (arg13 : Memref sig .tc .vmem S16x256x32 .f32) (harg13 : arg13.IsWhole) (arg14 : Memref sig .tc .vmem S16x32 .f32) (harg14 : arg14.IsWhole)
  (arg15 : Memref sig .tc .vmem S512x16 .f32) (harg15 : arg15.IsWhole) (arg16 : Memref sig .tc .vmem S512x16 .f32) (harg16 : arg16.IsWhole)
  (arg17 : Memref sig .tc .vmem S16x512x32 .f32) (harg17 : arg17.IsWhole) (arg18 : Memref sig .tc .vmem S512x32 .f32) (harg18 : arg18.IsWhole)
  (x0 : Vec F S512x16 .f32) (x1 : Vec F S16x512x32 .f32) (x2 : Vec F S32x16x256 .bf16) (x3 : Vec F S32x256 .bf16)
  (x4 : Vec F S32x256x256 .bf16) (x5 : Vec F S32x256 .bf16) (x6 : Vec F S32x256x1 .bf16) (x7 : Vec F S32x1 .f32)
  (x8 : Vec F S16x16x256 .f32) (x9 : Vec F S16x256 .f32) (x10 : Vec F S16x256x256 .f32) (x11 : Vec F S16x256 .f32)
  (x12 : Vec F S16x256x32 .f32) (x13 : Vec F S16x32 .f32) (x14 : Vec F S512x16 .f32)

/-- The load of a memref held at `x`, through its view, at the unit rectangle at `off`. -/
abbrev lo {s : Shape} {e : EltTy} (a : Memref sig .tc .vmem s e) (h : a.IsWhole) (x : Vec F s e) (off size : Fin s.rank → Nat)
    (inb : ∀ a, off a + size a ≤ s.size a) : (Rect.unit off size inb).toLoadRect.shape.Idx → Elt F e :=
  View.readAt (Elt F) a.view (Rect.unit off size inb).toLoadRect (h.unread x)

/-- The networks' columns at the body's loads. -/
abbrev mlpL : FVec F S512x32 .f32 :=
  mlpB (lo arg1 harg1 x0 ![0, 0] S512x16.size inb_S512x16_S512x16_0_0) (fun n => lo arg3 harg3 x2 ![n.val, 0, 0] S1x16x256.size (inb_w1 n))
    (fun n => lo arg4 harg4 x3 ![n.val, 0] S1x256.size (inb_b n)) (fun n => lo arg5 harg5 x4 ![n.val, 0, 0] S1x256x256.size (inb_w2 n))
    (fun n => lo arg6 harg6 x5 ![n.val, 0] S1x256.size (inb_b n)) (fun n => lo arg7 harg7 x6 ![n.val, 0, 0] S1x256x1.size (inb_w3 n))
    (fun n => lo arg8 harg8 x7 ![n.val, 0] S1x1.size (inb_b3 n))

/-- The routers' noisy logits at the body's loads. -/
abbrev scoresL (r : Fin 16) : FVec F S512x32 .f32 :=
  scores (lo arg1 harg1 x0 ![0, 0] S512x16.size inb_S512x16_S512x16_0_0) (lo arg9 harg9 x8 ![r.val, 0, 0] S1x16x256.size (inb_rw1 r))
    (lo arg10 harg10 x9 ![r.val, 0] S1x256.size (inb_rb r)) (lo arg11 harg11 x10 ![r.val, 0, 0] S1x256x256.size (inb_rw2 r))
    (lo arg12 harg12 x11 ![r.val, 0] S1x256.size (inb_rb r)) (lo arg13 harg13 x12 ![r.val, 0, 0] S1x256x32.size (inb_rw3 r))
    (lo arg14 harg14 x13 ![r.val, 0] S1x32.size (inb_rb3 r)) (lo arg2 harg2 x1 ![r.val, 0, 0] S1x512x32.size (inb_g r))

set_option maxHeartbeats 2000000 in
theorem run15 :
    (kernelRun0_A c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      x0 x1 x2 x3 x4 x5 x6 x7 x8 x9 x10 x11 x12 x13 x14).1
      = [(⟨Rect.unit ![0, 0] S512x16.size inb_S512x16_S512x16_0_0,
          dxdtB (scoresL arg1 harg1 arg2 harg2 arg9 harg9 arg10 harg10 arg11 harg11 arg12 harg12 arg13 harg13 arg14 harg14
              x0 x1 x8 x9 x10 x11 x12 x13)
            (arg18.view.readCov [(⟨Rect.unit ![0, 0] S512x32.size inb_S512x32_S512x32_0_0,
                mlpL arg1 harg1 arg3 harg3 arg4 harg4 arg5 harg5 arg6 harg6 arg7 harg7 arg8 harg8 x0 x2 x3 x4 x5 x6 x7⟩ : View.Piece (Elt F) S512x32 .f32)]
              (Rect.unit ![0, 0] S512x32.size inb_S512x32_S512x32_0_0).toLoadRect)
            (lo arg15 harg15 x14 ![0, 0] S512x16.size inb_S512x16_S512x16_0_0)⟩ : View.Piece (Elt F) S512x16 .f32)] := by
  chain_rfl

set_option maxHeartbeats 2000000 in
theorem run16 :
    (kernelRun0_A c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      x0 x1 x2 x3 x4 x5 x6 x7 x8 x9 x10 x11 x12 x13 x14).2.1
      = List.ofFn fun k : Fin 16 => (⟨Rect.unit ![(Fin.rev k).val, 0, 0] S1x512x32.size (inb_g (Fin.rev k)),
          k0_pay2 (hot (scoresL arg1 harg1 arg2 harg2 arg9 harg9 arg10 harg10 arg11 harg11 arg12 harg12 arg13 harg13 arg14 harg14
              x0 x1 x8 x9 x10 x11 x12 x13 (Fin.rev k)))⟩ : View.Piece (Elt F) S16x512x32 .f32) := by
  chain_rfl

end Run

end Cert.Proof.Block
-- ==== Proof.Net.lean ====
/-
  The mathematics both programs compute, as functions of plain indices over the extended reals: a two-layer perceptron's
  output (`net`) and the place of a row's first maximum (`First`); and a library network's column and a router's noisy
  logits of one grid point (`k0_pay5`, `scores`) read at an index as `net`.
-/
module

public import proofs.«01_k».proof.Proof.Block
public import Idealize.ShloMosaic.Lib.Pointwise
public import Idealize.ShloMosaic.PureOps.Ideal.Laws

@[expose] public section

set_option maxRecDepth 16384

noncomputable section

namespace Cert.Proof.Net

open Cert.KernelIdeal Cert.KernelIdeal.Gen Cert.Proof.Block
open Idealize.ShloMosaic Idealize.ShloMosaic.TcCoe Idealize.SL.Sem

/-- A perceptron with two hidden layers of 256, rectified: one output. -/
def net (X : Fin 16 → EReal) (W1 : Fin 16 → Fin 256 → EReal) (b1 : Fin 256 → EReal) (W2 : Fin 256 → Fin 256 → EReal)
    (b2 : Fin 256 → EReal) (W3 : Fin 256 → EReal) (b3 : EReal) : EReal :=
  (∑ k : Fin 256, max ((∑ j : Fin 256, max ((∑ i : Fin 16, X i * W1 i j) + b1 j) 0 * W2 j k) + b2 k) 0 * W3 k) + b3

/-- `d` is the place of the first maximum of `f`. -/
def First {n : Nat} (f : Fin n → EReal) (d : Fin n) : Prop := (∀ k, f k ≤ f d) ∧ ∀ k, k < d → f k < f d

theorem First.unique {n : Nat} {f : Fin n → EReal} {d e : Fin n} (hd : First f d) (he : First f e) : d = e := by
  rcases lt_trichotomy d e with h | h | h
  · exact absurd (hd.1 e) (not_le.mpr (he.2 d h))
  · exact h
  · exact absurd (he.1 d) (not_le.mpr (hd.2 e h))

theorem First.exists {n : Nat} (f : Fin (n + 1) → EReal) : ∃ d, First f d := by
  classical
  obtain ⟨a, -, ha⟩ := Finset.exists_max_image Finset.univ f ⟨0, Finset.mem_univ _⟩
  have hS : (Finset.univ.filter fun d : Fin (n + 1) => ∀ k, f k ≤ f d).Nonempty := ⟨a, by simpa using ha⟩
  refine ⟨_, (Finset.mem_filter.mp (Finset.min'_mem _ hS)).2, fun k hk => lt_of_le_of_ne ?_ fun e => ?_⟩
  · exact (Finset.mem_filter.mp (Finset.min'_mem _ hS)).2 k
  · have : k ∈ Finset.univ.filter fun d : Fin (n + 1) => ∀ k, f k ≤ f d :=
      Finset.mem_filter.mpr ⟨Finset.mem_univ _, fun l => e ▸ (Finset.mem_filter.mp (Finset.min'_mem _ hS)).2 l⟩
    exact absurd (Finset.min'_le _ _ this) (not_le.mpr hk)

/-- A fold of `max` from -∞ over a row is its value at the first maximum. -/
theorem fold_max_eq {n : Nat} {f : Fin n → EReal} {d : Fin n} (h : First f d) : Finset.fold max ⊥ f Finset.univ = f d :=
  le_antisymm (Finset.fold_max_le _ |>.mpr ⟨bot_le, fun k _ => h.1 k⟩) (Finset.le_fold_max _ |>.mpr (.inr ⟨d, Finset.mem_univ _, le_rfl⟩))

/-- A fold of the signed minimum is its start or one of its words, and is at most each of them. -/
theorem fold_minsi {n : Nat} (f : Fin n → BitVec 32) (b : BitVec 32) (s : Finset (Fin n)) :
    (s.fold IntOp.minsi b f = b ∨ ∃ k, s.fold IntOp.minsi b f = f k) ∧ ∀ k ∈ s, (s.fold IntOp.minsi b f).toInt ≤ (f k).toInt := by
  classical
  have hm (x y : BitVec 32) : (IntOp.minsi x y = x ∨ IntOp.minsi x y = y) ∧ (IntOp.minsi x y).toInt ≤ x.toInt ∧ (IntOp.minsi x y).toInt ≤ y.toInt := by
    unfold IntOp.minsi
    split <;> rename_i h
    · have := BitVec.slt_iff_toInt_lt.mp h
      exact ⟨.inl rfl, le_rfl, this.le⟩
    · have := mt BitVec.slt_iff_toInt_lt.mpr h
      exact ⟨.inr rfl, not_lt.mp this, le_rfl⟩
  induction s using Finset.induction_on with
  | empty => exact ⟨.inl rfl, fun k hk => absurd hk (Finset.notMem_empty k)⟩
  | insert a s ha ih =>
    rw [Finset.fold_insert ha]
    obtain ⟨h1, h2, h3⟩ := hm (f a) (s.fold IntOp.minsi b f)
    refine ⟨?_, fun k hk => ?_⟩
    · rcases h1 with h | h
      · exact .inr ⟨a, h⟩
      · rw [h]; exact ih.1
    · rcases Finset.mem_insert.mp hk with rfl | hk
      · exact h2
      · exact h3.trans (ih.2 k hk)

theorem toInt_ofNat {k : Nat} (h : k < 2 ^ 31) : (BitVec.ofNat 32 k).toInt = k := by
  rw [BitVec.toInt_eq_toNat_cond, BitVec.toNat_ofNat, Nat.mod_eq_of_lt (by omega), if_pos (by omega)]

/-- The least lane whose element reaches the row's maximum is the place of its first maximum. -/
theorem fold_lane {f : Fin 32 → EReal} {d : Fin 32} (h : First f d) :
    Finset.fold IntOp.minsi 2147483647#32 (fun x : Fin 32 => if f d ≤ f x then BitVec.ofNat 32 x else 32#32) Finset.univ = BitVec.ofNat 32 d := by
  obtain ⟨h1, h2⟩ := fold_minsi (fun x : Fin 32 => if f d ≤ f x then BitVec.ofNat 32 x else 32#32) 2147483647#32 Finset.univ
  have hd := h2 d (Finset.mem_univ _)
  simp only [le_refl, if_true] at hd
  rw [toInt_ofNat (by omega)] at hd
  rcases h1 with e | ⟨k, e⟩
  · rw [e] at hd
    exact absurd hd (by have := d.isLt; rw [show (2147483647#32 : BitVec 32).toInt = 2147483647 from by decide]; omega)
  · rw [e] at hd ⊢
    by_cases hk : f d ≤ f k
    · simp only [if_pos hk] at hd ⊢
      rw [toInt_ofNat (by omega)] at hd
      have : k = d := le_antisymm (by exact_mod_cast hd) (not_lt.mp fun hlt => absurd hk (not_le.mpr (h.2 k hlt)))
      rw [this]
    · simp only [if_neg hk] at hd
      exact absurd hd (by have := d.isLt; rw [show (32#32 : BitVec 32).toInt = 32 from by decide]; omega)

theorem pay5_apply (x : Vec Ideal S512x16 .f32) (w1 : Vec Ideal S1x16x256 .bf16) (b1 : Vec Ideal S1x256 .bf16) (w2 : Vec Ideal S1x256x256 .bf16)
    (b2 : Vec Ideal S1x256 .bf16) (w3 : Vec Ideal S1x256x1 .bf16) (b3 : Vec Ideal S1x1 .f32) (j : Fin 512) :
    k0_pay5 x w1 b1 w2 b2 w3 b3 (ix2 j 0) = net (fun i => x (ix2 j i)) (fun i k => w1 (ix3 0 i k)) (fun k => b1 (ix2 0 k))
      (fun i k => w2 (ix3 0 i k)) (fun k => b2 (ix2 0 k)) (fun k => w3 (ix3 0 k 0)) (b3 (ix2 0 0)) := by
  unfold k0_pay5 k0_pay4 net
  pointwise

theorem scores_apply (x : Vec Ideal S512x16 .f32) (w1 : Vec Ideal S1x16x256 .f32) (b1 : Vec Ideal S1x256 .f32) (w2 : Vec Ideal S1x256x256 .f32)
    (b2 : Vec Ideal S1x256 .f32) (w3 : Vec Ideal S1x256x32 .f32) (b3 : Vec Ideal S1x32 .f32) (g : Vec Ideal S1x512x32 .f32) (j : Fin 512) (d : Fin 32) :
    scores x w1 b1 w2 b2 w3 b3 g (ix2 j d) = net (fun i => x (ix2 j i)) (fun i k => w1 (ix3 0 i k)) (fun k => b1 (ix2 0 k))
      (fun i k => w2 (ix3 0 i k)) (fun k => b2 (ix2 0 k)) (fun k => w3 (ix3 0 k d)) (b3 (ix2 0 d)) + g (ix3 0 j d) := by
  unfold scores net
  pointwise

open Classical in
theorem hot_apply (z : FVec Ideal S512x32 .f32) (j : Fin 512) (d : Fin 32) :
    hot z (ix2 j d) = if First (fun n => z (ix2 j n)) d then 1 else 0 := by
  obtain ⟨e, he⟩ := First.exists fun n => z (ix2 j n)
  unfold hot lane k0_pay1
  pointwise
  have hb : Ideal.ofBits FTy.f32 4286578688#32 = ⊥ := by simp [Ideal.ofBits, Ideal.ieee]
  rw [hb, fold_max_eq he, fold_lane he]
  by_cases h : d = e
  · subst h
    rw [if_pos he]
    rw [show IntOp.cmpi .eq (BitVec.ofNat 32 d.val) (BitVec.ofNat 32 d.val) = 1#1 by simp [IntOp.cmpi]]
    show (((BitVec.setWidth 32 1#1).toInt : ℝ) : EReal) = 1
    rw [show (BitVec.setWidth 32 1#1).toInt = 1 by decide]
    norm_num
  · rw [if_neg fun hd => h (hd.unique he)]
    have hne : BitVec.ofNat 32 d.val ≠ BitVec.ofNat 32 e.val := fun hh => h (Fin.ext (by
      have := congrArg BitVec.toNat hh
      simp only [BitVec.toNat_ofNat] at this
      omega))
    rw [show IntOp.cmpi .eq (BitVec.ofNat 32 d.val) (BitVec.ofNat 32 e.val) = 0#1 by
      show BitVec.ofBool (BitVec.ofNat 32 d.val == BitVec.ofNat 32 e.val) = 0#1
      rw [beq_eq_false_iff_ne.mpr hne]; rfl]
    show (((BitVec.setWidth 32 0#1).toInt : ℝ) : EReal) = 0
    rw [show (BitVec.setWidth 32 0#1).toInt = 0 by decide]
    norm_num

end Cert.Proof.Net
-- ==== Proof.Point.lean ====
/-
  One grid point's two results at an index: the gates are one at the first maximum of a router's noisy logits and zero
  elsewhere; the derivative is the sum over the library of gate × network × coefficient, the block-diagonal coefficients
  leaving only the row's own router (`sum_diag`).
-/
module

public import proofs.«01_k».proof.Proof.Net
public import Idealize.ShloMosaic.Lib.Pipeline.Value
public import Idealize.ShloMosaic.Lib.Pipeline.ValueKit.Tiles
public import Idealize.ShloMosaic.Lib.Pipeline.FrameBody

@[expose] public section

set_option maxRecDepth 16384

noncomputable section

namespace Cert.Proof.Point

open Cert.KernelIdeal Cert.KernelIdeal.Gen Cert.Proof.Block Cert.Proof.Net
open Idealize.ShloMosaic Idealize.ShloMosaic.TcCoe Idealize.SL.Sem

theorem mlpB_apply (x : Vec Ideal S512x16 .f32) (w1 : Fin 32 → Vec Ideal S1x16x256 .bf16) (b1 : Fin 32 → Vec Ideal S1x256 .bf16)
    (w2 : Fin 32 → Vec Ideal S1x256x256 .bf16) (b2 : Fin 32 → Vec Ideal S1x256 .bf16) (w3 : Fin 32 → Vec Ideal S1x256x1 .bf16)
    (b3 : Fin 32 → Vec Ideal S1x1 .f32) (j : Fin 512) (n : Fin 32) :
    mlpB x w1 b1 w2 b2 w3 b3 (ix2 j n) = k0_pay5 x (w1 n) (b1 n) (w2 n) (b2 n) (w3 n) (b3 n) (ix2 j 0) := by
  unfold mlpB
  rw [shapeCast_self]
  refine concatenate_ofFn_apply (t := S512x32) (s₁ := S512x1) 1 (fun n : Fin 32 => k0_pay5 x (w1 n) (b1 n) (w2 n) (b2 n) (w3 n) (b3 n)) _ rfl 1 rfl (ix2 j n) n
    (Nat.div_one _) (ix2 j 0) (Nat.mod_one _).symm fun b hb => ?_
  match b with
  | ⟨0, _⟩ => rfl
  | ⟨1, _⟩ => exact absurd rfl hb

/-- Place `n` of row `r`, 16 rows of 32 laid end to end. -/
def place (r : Fin 16) (n : Fin 32) : Fin 512 := ⟨r.val * 32 + n.val, by omega⟩

/-- A sum over 512 places read as 16 rows of 32, whose terms vanish outside row `d`. -/
theorem sum_diag (f : Fin 512 → EReal) (d : Fin 16) (h : ∀ (r : Fin 16) (n : Fin 32), r ≠ d → f (place r n) = 0) :
    ∑ k, f k = ∑ n : Fin 32, f (place d n) := by
  have e (r : Fin 16) (n : Fin 32) : (finProdFinEquiv (r, n) : Fin (16 * 32)) = (place r n) :=
    Fin.ext (by simp [finProdFinEquiv, place]; omega)
  refine (Equiv.sum_comp (finProdFinEquiv (m := 16) (n := 32)) (fun k => f k)).symm.trans ?_
  rw [Fintype.sum_prod_type, Finset.sum_eq_single d]
  · exact Finset.sum_congr rfl fun n _ => congrArg f (e d n)
  · exact fun r _ hr => Finset.sum_eq_zero fun n _ => (congrArg f (e r n)).trans (h r n hr)
  · exact fun hd => absurd (Finset.mem_univ d) hd

theorem masked_apply (z : Fin 16 → FVec Ideal S512x32 .f32) (mlp : FVec Ideal S512x32 .f32) (j : Fin 512) (r : Fin 16) (n : Fin 32) :
    concatenate S512x512 1 (List.ofFn fun r : Fin 16 => (⟨S512x32, mulf (hot (z r)) mlp⟩ : (s : Shape) × (s.Idx → Ideal .f32))) (concat16 _)
      (ix2 j (place r n)) = hot (z r) (ix2 j n) * mlp (ix2 j n) := by
  refine (concatenate_ofFn_apply (t := S512x512) (s₁ := S512x32) 1 (fun r : Fin 16 => mulf (hot (z r)) mlp) _ rfl 32 rfl (ix2 j (place r n)) r
    ?_ (ix2 j n) ?_ fun b hb => ?_).trans ?_
  · show (r.val * 32 + n.val) / 32 = r.val
    omega
  · show n.val = (r.val * 32 + n.val) % 32
    omega
  · match b with
    | ⟨0, _⟩ => rfl
    | ⟨1, _⟩ => exact absurd rfl hb
  · rfl

theorem dxdtB_apply (z : Fin 16 → FVec Ideal S512x32 .f32) (mlp : FVec Ideal S512x32 .f32) (cbd : Vec Ideal S512x16 .f32)
    (C : Fin 16 → Fin 32 → EReal)
    (hc : ∀ (r : Fin 16) (n : Fin 32) (d : Fin 16), cbd (ix2 (place r n) d) = if r = d then C r n else (0 : EReal))
    (j : Fin 512) (d : Fin 16) :
    dxdtB z mlp cbd (ix2 j d) = ∑ n : Fin 32, hot (z d) (ix2 j n) * mlp (ix2 j n) * C d n := by
  have hm := masked_apply z mlp j
  unfold dxdtB
  generalize concatenate S512x512 1 (List.ofFn fun r : Fin 16 => (⟨S512x32, mulf (hot (z r)) mlp⟩ : (s : Shape) × (s.Idx → Ideal .f32)))
    (concat16 _) = X at hm ⊢
  unfold k0_pay3
  pointwise
  rw [sum_diag _ d fun r n hr => by rw [hc, if_neg hr, mul_zero]]
  exact Finset.sum_congr rfl fun n _ => by rw [hm, hc, if_pos rfl]

end Cert.Proof.Point
-- ==== Proof.Outs.lean ====
/-
  What the body leaves in its two output blocks, at an index, as functions of the fifteen input blocks: the run's pieces
  (`Block.run15`, `Block.run16`) read back, every load an element of its block.
-/
module

public import proofs.«01_k».proof.Proof.Point

@[expose] public section

set_option maxRecDepth 16384

noncomputable section

namespace Cert.Proof.Outs

open Cert.KernelIdeal Cert.KernelIdeal.Gen Cert.Proof.Block Cert.Proof.Net Cert.Proof.Point
open Idealize.ShloMosaic Idealize.ShloMosaic.TcCoe Idealize.SL.Sem

/-- Library network `n`'s output at a row. -/
def lib (X : Fin 16 → EReal) (W1 : S32x16x256.Idx → EReal) (b1 : S32x256.Idx → EReal) (W2 : S32x256x256.Idx → EReal) (b2 : S32x256.Idx → EReal)
    (W3 : S32x256x1.Idx → EReal) (b3 : S32x1.Idx → EReal) (n : Fin 32) : EReal :=
  net X (fun i k => W1 (ix3 n i k)) (fun k => b1 (ix2 n k)) (fun i k => W2 (ix3 n i k)) (fun k => b2 (ix2 n k)) (fun k => W3 (ix3 n k 0)) (b3 (ix2 n 0))

/-- Router `r`'s logit `d` at a row. -/
def rout (X : Fin 16 → EReal) (W1 : S16x16x256.Idx → EReal) (b1 : S16x256.Idx → EReal) (W2 : S16x256x256.Idx → EReal) (b2 : S16x256.Idx → EReal)
    (W3 : S16x256x32.Idx → EReal) (b3 : S16x32.Idx → EReal) (r : Fin 16) (d : Fin 32) : EReal :=
  net X (fun i k => W1 (ix3 r i k)) (fun k => b1 (ix2 r k)) (fun i k => W2 (ix3 r i k)) (fun k => b2 (ix2 r k)) (fun k => W3 (ix3 r k d)) (b3 (ix2 r d))

theorem net_congr {X X' : Fin 16 → EReal} {W1 W1' : Fin 16 → Fin 256 → EReal} {b1 b1' : Fin 256 → EReal} {W2 W2' : Fin 256 → Fin 256 → EReal}
    {b2 b2' : Fin 256 → EReal} {W3 W3' : Fin 256 → EReal} {b3 b3' : EReal} (hX : ∀ i, X i = X' i) (hW1 : ∀ i k, W1 i k = W1' i k)
    (hb1 : ∀ k, b1 k = b1' k) (hW2 : ∀ i k, W2 i k = W2' i k) (hb2 : ∀ k, b2 k = b2' k) (hW3 : ∀ k, W3 k = W3' k) (hb3 : b3 = b3') :
    net X W1 b1 W2 b2 W3 b3 = net X' W1' b1' W2' b2' W3' b3' := by
  rw [show X = X' from funext hX, show W1 = W1' from funext fun i => funext (hW1 i), show b1 = b1' from funext hb1,
    show W2 = W2' from funext fun i => funext (hW2 i), show b2 = b2' from funext hb2, show W3 = W3' from funext hW3, hb3]

/-- A load at an index is the element of the block at the rectangle's offset plus the index. -/
theorem lo_apply {F : FTy → Type} [FloatOps F] {s : Shape} {e : EltTy} (a : Memref sig .tc .vmem s e) (h : a.IsWhole) (x : Vec F s e)
    (off size : Fin s.rank → Nat) (inb : ∀ a, off a + size a ≤ s.size a) (y : (Rect.unit off size inb).toLoadRect.shape.Idx) (i : s.Idx)
    (hi : ∀ a, (i a : Nat) = off a + y a) : lo a h x off size inb y = x i := by
  show View.readAt (Elt F) a.view (Rect.unit off size inb).toLoadRect (h.unread x) y = x i
  rw [View.readAt_eq_ld, h.read_unread]
  exact View.ld_unit_apply_of x off size inb y i hi

theorem lo2 {e : EltTy} {N A A' : Nat} (a : Memref sig .tc .vmem ⟨2, ![N, A]⟩ e) (h : a.IsWhole) (x : Vec Ideal ⟨2, ![N, A]⟩ e) (n : Fin N)
    (inb : ∀ b, (![n.val, 0] : Fin 2 → Nat) b + (![1, A'] : Fin 2 → Nat) b ≤ (![N, A] : Fin 2 → Nat) b) (k : Fin A') (k' : Fin A) (hk : k'.val = k.val) :
    lo (F := Ideal) a h x ![n.val, 0] ![1, A'] inb (ix2 0 k) = x (ix2 n k') := by
  refine lo_apply a h x _ _ inb _ _ fun b => ?_
  match b with
  | ⟨0, _⟩ => rfl
  | ⟨1, _⟩ => exact hk.trans (Nat.zero_add _).symm

theorem lo2z {e : EltTy} {N A : Nat} (a : Memref sig .tc .vmem ⟨2, ![N, A]⟩ e) (h : a.IsWhole) (x : Vec Ideal ⟨2, ![N, A]⟩ e)
    (inb : ∀ b, (![0, 0] : Fin 2 → Nat) b + (![N, A] : Fin 2 → Nat) b ≤ (![N, A] : Fin 2 → Nat) b) (n : Fin N) (k : Fin A) :
    lo (F := Ideal) a h x ![0, 0] ![N, A] inb (ix2 n k) = x (ix2 n k) := by
  refine lo_apply a h x _ _ inb _ _ fun b => ?_
  match b with
  | ⟨0, _⟩ => exact (Nat.zero_add _).symm
  | ⟨1, _⟩ => exact (Nat.zero_add _).symm

theorem lo3 {e : EltTy} {N A B : Nat} (a : Memref sig .tc .vmem ⟨3, ![N, A, B]⟩ e) (h : a.IsWhole) (x : Vec Ideal ⟨3, ![N, A, B]⟩ e) (n : Fin N)
    (inb : ∀ b, (![n.val, 0, 0] : Fin 3 → Nat) b + (![1, A, B] : Fin 3 → Nat) b ≤ (![N, A, B] : Fin 3 → Nat) b) (i : Fin A) (k : Fin B) :
    lo (F := Ideal) a h x ![n.val, 0, 0] ![1, A, B] inb (ix3 0 i k) = x (ix3 n i k) := by
  refine lo_apply a h x _ _ inb _ _ fun b => ?_
  match b with
  | ⟨0, _⟩ => rfl
  | ⟨1, _⟩ => exact (Nat.zero_add _).symm
  | ⟨2, _⟩ => exact (Nat.zero_add _).symm

section Run

variable (c : Dev nD) (i : grid0.Coords)
  (arg1 : Memref sig .tc .vmem S512x16 .f32) (harg1 : arg1.IsWhole) (arg2 : Memref sig .tc .vmem S16x512x32 .f32) (harg2 : arg2.IsWhole)
  (arg3 : Memref sig .tc .vmem S32x16x256 .bf16) (harg3 : arg3.IsWhole) (arg4 : Memref sig .tc .vmem S32x256 .bf16) (harg4 : arg4.IsWhole)
  (arg5 : Memref sig .tc .vmem S32x256x256 .bf16) (harg5 : arg5.IsWhole) (arg6 : Memref sig .tc .vmem S32x256 .bf16) (harg6 : arg6.IsWhole)
  (arg7 : Memref sig .tc .vmem S32x256x1 .bf16) (harg7 : arg7.IsWhole) (arg8 : Memref sig .tc .vmem S32x1 .f32) (harg8 : arg8.IsWhole)
  (arg9 : Memref sig .tc .vmem S16x16x256 .f32) (harg9 : arg9.IsWhole) (arg10 : Memref sig .tc .vmem S16x256 .f32) (harg10 : arg10.IsWhole)
  (arg11 : Memref sig .tc .vmem S16x256x256 .f32) (harg11 : arg11.IsWhole) (arg12 : Memref sig .tc .vmem S16x256 .f32) (harg12 : arg12.IsWhole)
  (arg13 : Memref sig .tc .vmem S16x256x32 .f32) (harg13 : arg13.IsWhole) (arg14 : Memref sig .tc .vmem S16x32 .f32) (harg14 : arg14.IsWhole)
  (arg15 : Memref sig .tc .vmem S512x16 .f32) (harg15 : arg15.IsWhole) (arg16 : Memref sig .tc .vmem S512x16 .f32) (harg16 : arg16.IsWhole)
  (arg17 : Memref sig .tc .vmem S16x512x32 .f32) (harg17 : arg17.IsWhole) (arg18 : Memref sig .tc .vmem S512x32 .f32) (harg18 : arg18.IsWhole)
  (x0 : Vec Ideal S512x16 .f32) (x1 : Vec Ideal S16x512x32 .f32) (x2 : Vec Ideal S32x16x256 .bf16) (x3 : Vec Ideal S32x256 .bf16)
  (x4 : Vec Ideal S32x256x256 .bf16) (x5 : Vec Ideal S32x256 .bf16) (x6 : Vec Ideal S32x256x1 .bf16) (x7 : Vec Ideal S32x1 .f32)
  (x8 : Vec Ideal S16x16x256 .f32) (x9 : Vec Ideal S16x256 .f32) (x10 : Vec Ideal S16x256x256 .f32) (x11 : Vec Ideal S16x256 .f32)
  (x12 : Vec Ideal S16x256x32 .f32) (x13 : Vec Ideal S16x32 .f32) (x14 : Vec Ideal S512x16 .f32)

theorem scoresL_apply (r : Fin 16) (j : Fin 512) (d : Fin 32) :
    scoresL (F := Ideal) arg1 harg1 arg2 harg2 arg9 harg9 arg10 harg10 arg11 harg11 arg12 harg12 arg13 harg13 arg14 harg14 x0 x1 x8 x9 x10 x11 x12 x13 r (ix2 j d)
      = rout (fun i => x0 (ix2 j i)) x8 x9 x10 x11 x12 x13 r d + x1 (ix3 r j d) := by
  refine (scores_apply _ _ _ _ _ _ _ _ j d).trans (congrArg₂ (· + ·) ?_ (lo3 arg2 harg2 x1 r (inb_g r) j d))
  exact net_congr (fun i => lo2z arg1 harg1 x0 _ j i) (fun i k => lo3 arg9 harg9 x8 r (inb_rw1 r) i k) (fun k => lo2 arg10 harg10 x9 r (inb_rb r) k k rfl)
    (fun i k => lo3 arg11 harg11 x10 r (inb_rw2 r) i k) (fun k => lo2 arg12 harg12 x11 r (inb_rb r) k k rfl)
    (fun k => lo3 arg13 harg13 x12 r (inb_rw3 r) k d) (lo2 arg14 harg14 x13 r (inb_rb3 r) d d rfl)

theorem mlpL_apply (j : Fin 512) (n : Fin 32) :
    mlpL (F := Ideal) arg1 harg1 arg3 harg3 arg4 harg4 arg5 harg5 arg6 harg6 arg7 harg7 arg8 harg8 x0 x2 x3 x4 x5 x6 x7 (ix2 j n)
      = lib (fun i => x0 (ix2 j i)) x2 x3 x4 x5 x6 x7 n := by
  refine (mlpB_apply _ _ _ _ _ _ _ j n).trans ((pay5_apply _ _ _ _ _ _ _ j).trans ?_)
  exact net_congr (fun i => lo2z arg1 harg1 x0 _ j i) (fun i k => lo3 arg3 harg3 x2 n (inb_w1 n) i k) (fun k => lo2 arg4 harg4 x3 n (inb_b n) k k rfl)
    (fun i k => lo3 arg5 harg5 x4 n (inb_w2 n) i k) (fun k => lo2 arg6 harg6 x5 n (inb_b n) k k rfl)
    (fun k => lo3 arg7 harg7 x6 n (inb_w3 n) k 0) (lo2 arg8 harg8 x7 n (inb_b3 n) 0 0 rfl)

open Classical in
theorem out16_apply (r : Fin 16) (j : Fin 512) (d : Fin 32) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      x0 x1 x2 x3 x4 x5 x6 x7 x8 x9 x10 x11 x12 x13 x14 (ix3 r j d)
      = if First (fun k => rout (fun i => x0 (ix2 j i)) x8 x9 x10 x11 x12 x13 r k + x1 (ix3 r j k)) d then (1 : EReal) else 0 := by
  unfold out0_A_16
  rw [View.read_writes_junk_eq_canon, run16]
  refine View.canon_ofFn_unit_eq_of_forall (S := S16x512x32) (fun k : Fin 16 => ![(Fin.rev k).val, 0, 0]) S1x512x32.size (fun k => inb_g (Fin.rev k)) _ _ _ ?_ ?_
  · refine ⟨Fin.rev r, fun a => ?_⟩
    rw [Fin.rev_rev]
    match a with
    | ⟨0, _⟩ => exact ⟨le_rfl, Nat.lt_succ_self _⟩
    | ⟨1, _⟩ => exact ⟨Nat.zero_le _, (Nat.zero_add 512).symm ▸ j.isLt⟩
    | ⟨2, _⟩ => exact ⟨Nat.zero_le _, (Nat.zero_add 32).symm ▸ d.isLt⟩
  · intro k x hx
    have h0 : r.val = (Fin.rev k).val + (x 0).val := hx 0
    have h1 : j.val = 0 + (x 1).val := hx 1
    have h2 : d.val = 0 + (x 2).val := hx 2
    have hx0 : (x 0).val < 1 := (x 0).isLt
    obtain rfl : r = Fin.rev k := Fin.ext (by omega)
    have e : x = ix3 0 j d := funext fun a => by
      match a with
      | ⟨0, _⟩ => exact Fin.ext (by show (x 0).val = 0; omega)
      | ⟨1, _⟩ => exact Fin.ext (by show (x 1).val = j.val; omega)
      | ⟨2, _⟩ => exact Fin.ext (by show (x 2).val = d.val; omega)
    rw [e]
    have hp : ∀ h : FVec Ideal S512x32 .f32, k0_pay2 h (ix3 0 j d) = h (ix2 j d) := fun h => by unfold k0_pay2; pointwise
    refine (hp _).trans ((hot_apply _ j d).trans ?_)
    simp only [scoresL_apply]

open Classical in
theorem out15_apply (C : Fin 16 → Fin 32 → EReal)
    (hc : ∀ (r : Fin 16) (n : Fin 32) (d : Fin 16), x14 (ix2 (place r n) d) = if r = d then C r n else (0 : EReal)) (j : Fin 512) (d : Fin 16) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      x0 x1 x2 x3 x4 x5 x6 x7 x8 x9 x10 x11 x12 x13 x14 (ix2 j d)
      = ∑ n : Fin 32, (if First (fun k => rout (fun i => x0 (ix2 j i)) x8 x9 x10 x11 x12 x13 d k + x1 (ix3 d j k)) n then (1 : EReal) else 0)
          * lib (fun i => x0 (ix2 j i)) x2 x3 x4 x5 x6 x7 n * C d n := by
  unfold out0_A_15
  rw [View.read_writes_junk_eq_canon, run15, View.canon_unit_zero (funext fun a => by fin_cases a <;> rfl),
    View.readCov_unit_zero _ (funext fun a => by fin_cases a <;> rfl)]
  refine (dxdtB_apply _ _ _ C (fun r n d => (lo2z arg15 harg15 x14 _ (place r n) d).trans (hc r n d)) j d).trans (Finset.sum_congr rfl fun n _ => ?_)
  rw [hot_apply, mlpL_apply]
  simp only [scoresL_apply]

end Run

end Cert.Proof.Outs
-- ==== Proof.Reals.lean ====
/-
  Real values among the extended reals: sums, products and maxima of reals are real, so a perceptron of reals is real.
-/
module

public import proofs.«01_k».proof.Proof.Outs

@[expose] public section

set_option maxRecDepth 16384

noncomputable section

namespace Cert.Proof.Reals

open Cert.KernelIdeal Cert.Proof.Net Cert.Proof.Outs
open Idealize.ShloMosaic

/-- A real value. -/
def IsReal (x : EReal) : Prop := ∃ y : ℝ, x = (y : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max_zero {x : EReal} (hx : IsReal x) : IsReal (max x 0) := by
  rcases max_choice x 0 with h | h <;> rw [h]
  · exact hx
  · exact ⟨0, EReal.coe_zero.symm⟩

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.sum {n : Nat} {f : Fin n → EReal} (hf : ∀ i, IsReal (f i)) : IsReal (∑ i, f i) := by
  choose g hg using hf
  exact ⟨∑ i, g i, by rw [← coe_sum]; exact Finset.sum_congr rfl fun i _ => hg i⟩

theorem net_real {X : Fin 16 → EReal} {W1 : Fin 16 → Fin 256 → EReal} {b1 : Fin 256 → EReal} {W2 : Fin 256 → Fin 256 → EReal}
    {b2 : Fin 256 → EReal} {W3 : Fin 256 → EReal} {b3 : EReal} (hX : ∀ i, IsReal (X i)) (hW1 : ∀ i k, IsReal (W1 i k)) (hb1 : ∀ k, IsReal (b1 k))
    (hW2 : ∀ i k, IsReal (W2 i k)) (hb2 : ∀ k, IsReal (b2 k)) (hW3 : ∀ k, IsReal (W3 k)) (hb3 : IsReal b3) :
    IsReal (net X W1 b1 W2 b2 W3 b3) :=
  (IsReal.sum fun k => (((IsReal.sum fun j => (((IsReal.sum fun i => (hX i).mul (hW1 i j)).add (hb1 j)).max_zero).mul (hW2 j k)).add (hb2 k)).max_zero).mul (hW3 k)).add hb3

/-- A router's logit of real inputs and weights is real. -/
theorem rout_real {X : Fin 16 → EReal} {W1 : S16x16x256.Idx → EReal} {b1 : S16x256.Idx → EReal} {W2 : S16x256x256.Idx → EReal} {b2 : S16x256.Idx → EReal}
    {W3 : S16x256x32.Idx → EReal} {b3 : S16x32.Idx → EReal} (hX : ∀ i, IsReal (X i)) (hW1 : ∀ i, IsReal (W1 i)) (hb1 : ∀ i, IsReal (b1 i))
    (hW2 : ∀ i, IsReal (W2 i)) (hb2 : ∀ i, IsReal (b2 i)) (hW3 : ∀ i, IsReal (W3 i)) (hb3 : ∀ i, IsReal (b3 i)) (r : Fin 16) (d : Fin 32) :
    IsReal (rout X W1 b1 W2 b2 W3 b3 r d) :=
  net_real hX (fun _ _ => hW1 _) (fun _ => hb1 _) (fun _ _ => hW2 _) (fun _ => hb2 _) (fun _ => hW3 _) (hb3 _)

/-- An absolute value below +∞ is of a real. -/
theorem isReal_of_abs_lt {x : EReal} (h : max x (-x) < ⊤) : IsReal x := by
  induction x using EReal.rec with
  | bot => simp at h
  | top => simp at h
  | coe a => exact ⟨a, rfl⟩

end Cert.Proof.Reals
-- ==== Proof.Finite.lean ====
/-
  What the precondition says of an argument: every element is a real.
-/
module

public import proofs.«01_k».proof.Defs
public import proofs.«01_k».proof.Proof.Reals

@[expose] public section

set_option maxRecDepth 16384

noncomputable section

namespace Cert.Proof.Finite

open Cert.Proof.Reals
open Idealize.ShloMosaic Idealize.SL.Sem

/-- The precondition's side conditions. -/
theorem facts : Cert.Pre_router_inputs_finite.Facts :=
  ⟨by decide, by decide, by decide, by decide, by decide, by decide⟩

/-- An absolute value compared below +∞ is of a real. -/
theorem real_of_cmp {s : Shape} (x : FVec Ideal s .f32) (h : (⟨0, ![]⟩ : Shape).BroadcastsInDim s (![] : Fin 0 → Fin s.rank))
    (e : cmpf .olt (Host.absf x) (broadcastInDim s ![] h (constant (⟨0, ![]⟩ : Shape) .f32 0x7F800000#32 : FVec Ideal (⟨0, ![]⟩ : Shape) .f32)) = fun _ => 1#1) (i : s.Idx) :
    IsReal (x i) := by
  have ht : Ideal.ofBits FTy.f32 0x7F800000#32 = ⊤ := by simp [Ideal.ofBits, Ideal.ieee]
  have hi : Ideal.cmp .olt (max (x i : EReal) (-(x i))) (Ideal.ofBits FTy.f32 0x7F800000#32) = 1#1 := congrFun e i
  rw [ht] at hi
  simp only [Ideal.cmp] at hi
  refine isReal_of_abs_lt ?_
  by_contra hn
  simp [hn] at hi

end Cert.Proof.Finite
-- ==== Proof.RefOps.lean ====
/-
  The reference program (../ReferenceIdeal.lean), run: its 367 operations in six stretches, @main as the chain of the six
  (`main_eq`), and what a run of it leaves (`run`): every buffer at the operations' results folded over the launch contents.
  The list of the operations is the printed program with its calls written out at the buffers of each call.
-/
module

public import proofs.«01_k».proof.Proof.Gen.ReferenceIdeal
public import Idealize.ShloMosaic.Lib.StableHlo.Run
public import Idealize.ShloMosaic.Lib.Pipeline.Regions

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The library networks (`main_v16`) and the routers' logits (`main_v31`): 40 operations. -/
abbrev opsNets : List (HloOp τ sig (Elt F)) :=
  ( binary main_arg1 main_arg0 main_v0 ((fun l r => Host.dotGeneral dot_S32x16x256_S8192x16_S32x256x8192_1_1_02_0_n_n none l r) : (⟨S32x16x256, .f32⟩ : BufTy).Contents (Elt F) → (⟨S8192x16, .f32⟩ : BufTy).Contents (Elt F) → (⟨S32x256x8192, .f32⟩ : BufTy).Contents (Elt F))
  :: unary main_v0 main_v1 ((transpose S32x8192x256 [0, 2, 1] · transposes_S32x256x8192_S32x8192x256_0_2_1) : (⟨S32x256x8192, .f32⟩ : BufTy).Contents (Elt F) → (⟨S32x8192x256, .f32⟩ : BufTy).Contents (Elt F))
  :: unary main_arg2 main_v2 (broadcastInDim S32x1x256 ![0, 2] bcast_S32x256_S32x1x256_0_2 : (⟨S32x256, .f32⟩ : BufTy).Contents (Elt F) → (⟨S32x1x256, .f32⟩ : BufTy).Contents (Elt F))
  :: unary main_v2 main_v3 (broadcastInDim S32x8192x256 ![0, 1, 2] bcast_S32x1x256_S32x8192x256_0_1_2 : (⟨S32x1x256, .f32⟩ : BufTy).Contents (Elt F) → (⟨S32x8192x256, .f32⟩ : BufTy).Contents (Elt F))
  :: binary main_v1 main_v3 main_v4 (addf : (⟨S32x8192x256, .f32⟩ : BufTy).Contents (Elt F) → (⟨S32x8192x256, .f32⟩ : BufTy).Contents (Elt F) → (⟨S32x8192x256, .f32⟩ : BufTy).Contents (Elt F))
  :: TRef.nullary (.of main_call0_cst : TRef sig ⟨S_, .f32⟩) (constant S_ .f32 0x00000000#32)
  :: TRef.unary (.of main_call0_cst : TRef sig ⟨S_, .f32⟩) (.of main_call0_v0 : TRef sig ⟨S32x8192x256, .f32⟩) (broadcastInDim S32x8192x256 ![] bcast_S_S32x8192x256)
  :: TRef.binary (.of main_v4 : TRef sig ⟨S32x8192x256, .f32⟩) (.of main_call0_v0 : TRef sig ⟨S32x8192x256, .f32⟩) (.of main_v5 : TRef sig ⟨S32x8192x256, .f32⟩) maximumf
  :: binary main_v5 main_arg3 main_v6 ((fun l r => Host.dotGeneral dot_S32x8192x256_S32x256x256_S32x8192x256_2_1_1_2_0_0 none l r) : (⟨S32x8192x256, .f32⟩ : BufTy).Contents (Elt F) → (⟨S32x256x256, .f32⟩ : BufTy).Contents (Elt F) → (⟨S32x8192x256, .f32⟩ : BufTy).Contents (Elt F))
  :: unary main_arg4 main_v7 (broadcastInDim S32x1x256 ![0, 2] bcast_S32x256_S32x1x256_0_2 : (⟨S32x256, .f32⟩ : BufTy).Contents (Elt F) → (⟨S32x1x256, .f32⟩ : BufTy).Contents (Elt F))
  :: unary main_v7 main_v8 (broadcastInDim S32x8192x256 ![0, 1, 2] bcast_S32x1x256_S32x8192x256_0_1_2 : (⟨S32x1x256, .f32⟩ : BufTy).Contents (Elt F) → (⟨S32x8192x256, .f32⟩ : BufTy).Contents (Elt F))
  :: binary main_v6 main_v8 main_v9 (addf : (⟨S32x8192x256, .f32⟩ : BufTy).Contents (Elt F) → (⟨S32x8192x256, .f32⟩ : BufTy).Contents (Elt F) → (⟨S32x8192x256, .f32⟩ : BufTy).Contents (Elt F))
  :: TRef.nullary (.of main_call1_cst : TRef sig ⟨S_, .f32⟩) (constant S_ .f32 0x00000000#32)
  :: TRef.unary (.of main_call1_cst : TRef sig ⟨S_, .f32⟩) (.of main_call1_v0 : TRef sig ⟨S32x8192x256, .f32⟩) (broadcastInDim S32x8192x256 ![] bcast_S_S32x8192x256)
  :: TRef.binary (.of main_v9 : TRef sig ⟨S32x8192x256, .f32⟩) (.of main_call1_v0 : TRef sig ⟨S32x8192x256, .f32⟩) (.of main_v10 : TRef sig ⟨S32x8192x256, .f32⟩) maximumf
  :: binary main_v10 main_arg5 main_v11 ((fun l r => Host.dotGeneral dot_S32x8192x256_S32x256x1_S32x8192x1_2_1_1_2_0_0 none l r) : (⟨S32x8192x256, .f32⟩ : BufTy).Contents (Elt F) → (⟨S32x256x1, .f32⟩ : BufTy).Contents (Elt F) → (⟨S32x8192x1, .f32⟩ : BufTy).Contents (Elt F))
  :: unary main_arg6 main_v12 (broadcastInDim S32x1x1 ![0, 2] bcast_S32x1_S32x1x1_0_2 : (⟨S32x1, .f32⟩ : BufTy).Contents (Elt F) → (⟨S32x1x1, .f32⟩ : BufTy).Contents (Elt F))
  :: unary main_v12 main_v13 (broadcastInDim S32x8192x1 ![0, 1, 2] bcast_S32x1x1_S32x8192x1_0_1_2 : (⟨S32x1x1, .f32⟩ : BufTy).Contents (Elt F) → (⟨S32x8192x1, .f32⟩ : BufTy).Contents (Elt F))
  :: binary main_v11 main_v13 main_v14 (addf : (⟨S32x8192x1, .f32⟩ : BufTy).Contents (Elt F) → (⟨S32x8192x1, .f32⟩ : BufTy).Contents (Elt F) → (⟨S32x8192x1, .f32⟩ : BufTy).Contents (Elt F))
  :: reshape main_v14 main_v15 (rfl : (.f32 : EltTy) = .f32) shapeCasts_S32x8192x1_S32x8192
  :: unary main_v15 main_v16 ((transpose S8192x32 [1, 0] · transposes_S32x8192_S8192x32_1_0) : (⟨S32x8192, .f32⟩ : BufTy).Contents (Elt F) → (⟨S8192x32, .f32⟩ : BufTy).Contents (Elt F))
  :: binary main_arg7 main_arg0 main_v17 ((fun l r => Host.dotGeneral dot_S16x16x256_S8192x16_S16x256x8192_1_1_02_0_n_n none l r) : (⟨S16x16x256, .f32⟩ : BufTy).Contents (Elt F) → (⟨S8192x16, .f32⟩ : BufTy).Contents (Elt F) → (⟨S16x256x8192, .f32⟩ : BufTy).Contents (Elt F))
  :: unary main_v17 main_v18 ((transpose S16x8192x256 [0, 2, 1] · transposes_S16x256x8192_S16x8192x256_0_2_1) : (⟨S16x256x8192, .f32⟩ : BufTy).Contents (Elt F) → (⟨S16x8192x256, .f32⟩ : BufTy).Contents (Elt F))
  :: unary main_arg8 main_v19 (broadcastInDim S16x1x256 ![0, 2] bcast_S16x256_S16x1x256_0_2 : (⟨S16x256, .f32⟩ : BufTy).Contents (Elt F) → (⟨S16x1x256, .f32⟩ : BufTy).Contents (Elt F))
  :: unary main_v19 main_v20 (broadcastInDim S16x8192x256 ![0, 1, 2] bcast_S16x1x256_S16x8192x256_0_1_2 : (⟨S16x1x256, .f32⟩ : BufTy).Contents (Elt F) → (⟨S16x8192x256, .f32⟩ : BufTy).Contents (Elt F))
  :: binary main_v18 main_v20 main_v21 (addf : (⟨S16x8192x256, .f32⟩ : BufTy).Contents (Elt F) → (⟨S16x8192x256, .f32⟩ : BufTy).Contents (Elt F) → (⟨S16x8192x256, .f32⟩ : BufTy).Contents (Elt F))
  :: TRef.nullary (.of main_call2_cst : TRef sig ⟨S_, .f32⟩) (constant S_ .f32 0x00000000#32)
  :: TRef.unary (.of main_call2_cst : TRef sig ⟨S_, .f32⟩) (.of main_call2_v0 : TRef sig ⟨S16x8192x256, .f32⟩) (broadcastInDim S16x8192x256 ![] bcast_S_S16x8192x256)
  :: TRef.binary (.of main_v21 : TRef sig ⟨S16x8192x256, .f32⟩) (.of main_call2_v0 : TRef sig ⟨S16x8192x256, .f32⟩) (.of main_v22 : TRef sig ⟨S16x8192x256, .f32⟩) maximumf
  :: binary main_v22 main_arg9 main_v23 ((fun l r => Host.dotGeneral dot_S16x8192x256_S16x256x256_S16x8192x256_2_1_1_2_0_0 none l r) : (⟨S16x8192x256, .f32⟩ : BufTy).Contents (Elt F) → (⟨S16x256x256, .f32⟩ : BufTy).Contents (Elt F) → (⟨S16x8192x256, .f32⟩ : BufTy).Contents (Elt F))
  :: unary main_arg10 main_v24 (broadcastInDim S16x1x256 ![0, 2] bcast_S16x256_S16x1x256_0_2 : (⟨S16x256, .f32⟩ : BufTy).Contents (Elt F) → (⟨S16x1x256, .f32⟩ : BufTy).Contents (Elt F))
  :: unary main_v24 main_v25 (broadcastInDim S16x8192x256 ![0, 1, 2] bcast_S16x1x256_S16x8192x256_0_1_2 : (⟨S16x1x256, .f32⟩ : BufTy).Contents (Elt F) → (⟨S16x8192x256, .f32⟩ : BufTy).Contents (Elt F))
  :: binary main_v23 main_v25 main_v26 (addf : (⟨S16x8192x256, .f32⟩ : BufTy).Contents (Elt F) → (⟨S16x8192x256, .f32⟩ : BufTy).Contents (Elt F) → (⟨S16x8192x256, .f32⟩ : BufTy).Contents (Elt F))
  :: TRef.nullary (.of main_call3_cst : TRef sig ⟨S_, .f32⟩) (constant S_ .f32 0x00000000#32)
  :: TRef.unary (.of main_call3_cst : TRef sig ⟨S_, .f32⟩) (.of main_call3_v0 : TRef sig ⟨S16x8192x256, .f32⟩) (broadcastInDim S16x8192x256 ![] bcast_S_S16x8192x256)
  :: TRef.binary (.of main_v26 : TRef sig ⟨S16x8192x256, .f32⟩) (.of main_call3_v0 : TRef sig ⟨S16x8192x256, .f32⟩) (.of main_v27 : TRef sig ⟨S16x8192x256, .f32⟩) maximumf
  :: binary main_v27 main_arg11 main_v28 ((fun l r => Host.dotGeneral dot_S16x8192x256_S16x256x32_S16x8192x32_2_1_1_2_0_0 none l r) : (⟨S16x8192x256, .f32⟩ : BufTy).Contents (Elt F) → (⟨S16x256x32, .f32⟩ : BufTy).Contents (Elt F) → (⟨S16x8192x32, .f32⟩ : BufTy).Contents (Elt F))
  :: unary main_arg12 main_v29 (broadcastInDim S16x1x32 ![0, 2] bcast_S16x32_S16x1x32_0_2 : (⟨S16x32, .f32⟩ : BufTy).Contents (Elt F) → (⟨S16x1x32, .f32⟩ : BufTy).Contents (Elt F))
  :: unary main_v29 main_v30 (broadcastInDim S16x8192x32 ![0, 1, 2] bcast_S16x1x32_S16x8192x32_0_1_2 : (⟨S16x1x32, .f32⟩ : BufTy).Contents (Elt F) → (⟨S16x8192x32, .f32⟩ : BufTy).Contents (Elt F))
  :: binary main_v28 main_v30 main_v31 (addf : (⟨S16x8192x32, .f32⟩ : BufTy).Contents (Elt F) → (⟨S16x8192x32, .f32⟩ : BufTy).Contents (Elt F) → (⟨S16x8192x32, .f32⟩ : BufTy).Contents (Elt F))
  :: [] )
/-- Each touches TensorCore references only. -/
theorem opsNets_sub : (opsNets : List (HloOp τ sig (Elt F))).Forall fun op => op.bufs ⊆ tcRefs τ sig :=
  ⟨binary_bufs_sub .., unary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub .., unary_bufs_sub .., binary_bufs_sub .., unary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- The random key and the bounds of the uniform draw: 12 operations. -/
abbrev opsKey : List (HloOp τ sig (Elt F)) :=
  ( nullary main_c (constantI S_ 32 1234#32)
  :: nullary main_c_0 (constantI S_ 32 32#32)
  :: binary main_c main_c_0 main_v32 (Host.shrui : (⟨S_, .i32⟩ : BufTy).Contents (Elt F) → (⟨S_, .i32⟩ : BufTy).Contents (Elt F) → (⟨S_, .i32⟩ : BufTy).Contents (Elt F))
  :: unary main_v32 main_v33 (id : (⟨S_, .i32⟩ : BufTy).Contents (Elt F) → (⟨S_, .i32⟩ : BufTy).Contents (Elt F))
  :: unary main_v33 main_v34 (broadcastInDim S1 ![] bcast_S_S1 : (⟨S_, .i32⟩ : BufTy).Contents (Elt F) → (⟨S1, .i32⟩ : BufTy).Contents (Elt F))
  :: nullary main_c_1 (constantI S_ 32 4294967295#32)
  :: binary main_c main_c_1 main_v35 (andi : (⟨S_, .i32⟩ : BufTy).Contents (Elt F) → (⟨S_, .i32⟩ : BufTy).Contents (Elt F) → (⟨S_, .i32⟩ : BufTy).Contents (Elt F))
  :: unary main_v35 main_v36 (id : (⟨S_, .i32⟩ : BufTy).Contents (Elt F) → (⟨S_, .i32⟩ : BufTy).Contents (Elt F))
  :: unary main_v36 main_v37 (broadcastInDim S1 ![] bcast_S_S1 : (⟨S_, .i32⟩ : BufTy).Contents (Elt F) → (⟨S1, .i32⟩ : BufTy).Contents (Elt F))
  :: binary main_v34 main_v37 main_v38 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))
  :: nullary main_cst (constant S_ .f32 0x00000000#32)
  :: nullary main_cst_2 (constant S_ .f32 0x3F800000#32)
  :: [] )
/-- Each touches TensorCore references only. -/
theorem opsKey_sub : (opsKey : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub ..⟩

set_option maxHeartbeats 4000000 in  -- a long list
/-- The uniform draw (`main_v39`), its counter-based generator written out: 267 operations. -/
abbrev opsUniform : List (HloOp τ sig (Elt F)) :=
  ( TRef.unary (.of main_cst : TRef sig ⟨S_, .f32⟩) (.of main_call4_v0 : TRef sig ⟨S_, .f32⟩) id
  :: TRef.unary (.of main_cst_2 : TRef sig ⟨S_, .f32⟩) (.of main_call4_v1 : TRef sig ⟨S_, .f32⟩) id
  :: TRef.unary (.of main_call4_v0 : TRef sig ⟨S_, .f32⟩) (.of main_call4_v2 : TRef sig ⟨S1x1x1, .f32⟩) (broadcastInDim S1x1x1 ![] bcast_S_S1x1x1)
  :: TRef.unary (.of main_call4_v1 : TRef sig ⟨S_, .f32⟩) (.of main_call4_v3 : TRef sig ⟨S1x1x1, .f32⟩) (broadcastInDim S1x1x1 ![] bcast_S_S1x1x1)
  :: TRef.unary (.of main_v38 : TRef sig ⟨S2, .i32⟩) (.of main_call4_v4 : TRef sig ⟨S1, .i32⟩) (extractStridedSlice S1 ![0] · slices_S2_S1_0)
  :: TRef.reshape (.of main_call4_v4 : TRef sig ⟨S1, .i32⟩) (.of main_call4_v5 : TRef sig ⟨S_, .i32⟩) (rfl : (.i32 : EltTy) = .i32) shapeCasts_S1_S_
  :: TRef.unary (.of main_v38 : TRef sig ⟨S2, .i32⟩) (.of main_call4_v6 : TRef sig ⟨S1, .i32⟩) (extractStridedSlice S1 ![1] · slices_S2_S1_1)
  :: TRef.reshape (.of main_call4_v6 : TRef sig ⟨S1, .i32⟩) (.of main_call4_v7 : TRef sig ⟨S_, .i32⟩) (rfl : (.i32 : EltTy) = .i32) shapeCasts_S1_S_
  :: TRef.nullary (.of main_call4_v8 : TRef sig ⟨S16x8192x32, .i64⟩) (iotaInDim S16x8192x32 64 0)
  :: TRef.nullary (.of main_call4_v9 : TRef sig ⟨S16x8192x32, .i64⟩) (iotaInDim S16x8192x32 64 1)
  :: TRef.nullary (.of main_call4_v10 : TRef sig ⟨S16x8192x32, .i64⟩) (iotaInDim S16x8192x32 64 2)
  :: TRef.nullary (.of main_call4_c : TRef sig ⟨S_, .i64⟩) (constantI S_ 64 262144#64)
  :: TRef.unary (.of main_call4_c : TRef sig ⟨S_, .i64⟩) (.of main_call4_v11 : TRef sig ⟨S16x8192x32, .i64⟩) (broadcastInDim S16x8192x32 ![] bcast_S_S16x8192x32)
  :: TRef.binary (.of main_call4_v11 : TRef sig ⟨S16x8192x32, .i64⟩) (.of main_call4_v8 : TRef sig ⟨S16x8192x32, .i64⟩) (.of main_call4_v12 : TRef sig ⟨S16x8192x32, .i64⟩) muli
  :: TRef.nullary (.of main_call4_c_0 : TRef sig ⟨S_, .i64⟩) (constantI S_ 64 32#64)
  :: TRef.unary (.of main_call4_c_0 : TRef sig ⟨S_, .i64⟩) (.of main_call4_v13 : TRef sig ⟨S16x8192x32, .i64⟩) (broadcastInDim S16x8192x32 ![] bcast_S_S16x8192x32)
  :: TRef.binary (.of main_call4_v13 : TRef sig ⟨S16x8192x32, .i64⟩) (.of main_call4_v9 : TRef sig ⟨S16x8192x32, .i64⟩) (.of main_call4_v14 : TRef sig ⟨S16x8192x32, .i64⟩) muli
  :: TRef.nullary (.of main_call4_c_1 : TRef sig ⟨S_, .i64⟩) (constantI S_ 64 1#64)
  :: TRef.unary (.of main_call4_c_1 : TRef sig ⟨S_, .i64⟩) (.of main_call4_v15 : TRef sig ⟨S16x8192x32, .i64⟩) (broadcastInDim S16x8192x32 ![] bcast_S_S16x8192x32)
  :: TRef.binary (.of main_call4_v15 : TRef sig ⟨S16x8192x32, .i64⟩) (.of main_call4_v10 : TRef sig ⟨S16x8192x32, .i64⟩) (.of main_call4_v16 : TRef sig ⟨S16x8192x32, .i64⟩) muli
  :: TRef.binary (.of main_call4_v12 : TRef sig ⟨S16x8192x32, .i64⟩) (.of main_call4_v14 : TRef sig ⟨S16x8192x32, .i64⟩) (.of main_call4_v17 : TRef sig ⟨S16x8192x32, .i64⟩) addi
  :: TRef.binary (.of main_call4_v17 : TRef sig ⟨S16x8192x32, .i64⟩) (.of main_call4_v16 : TRef sig ⟨S16x8192x32, .i64⟩) (.of main_call4_v18 : TRef sig ⟨S16x8192x32, .i64⟩) addi
  :: TRef.nullary (.of main_call4_c_2 : TRef sig ⟨S_, .i64⟩) (constantI S_ 64 32#64)
  :: TRef.unary (.of main_call4_c_2 : TRef sig ⟨S_, .i64⟩) (.of main_call4_v19 : TRef sig ⟨S16x8192x32, .i64⟩) (broadcastInDim S16x8192x32 ![] bcast_S_S16x8192x32)
  :: TRef.binary (.of main_call4_v18 : TRef sig ⟨S16x8192x32, .i64⟩) (.of main_call4_v19 : TRef sig ⟨S16x8192x32, .i64⟩) (.of main_call4_v20 : TRef sig ⟨S16x8192x32, .i64⟩) Host.shrui
  :: TRef.unary (.of main_call4_v18 : TRef sig ⟨S16x8192x32, .i64⟩) (.of main_call4_v21 : TRef sig ⟨S16x8192x32, .i32⟩) (trunci 32 · natLt_32_64)
  :: TRef.unary (.of main_call4_v20 : TRef sig ⟨S16x8192x32, .i64⟩) (.of main_call4_v22 : TRef sig ⟨S16x8192x32, .i32⟩) (trunci 32 · natLt_32_64)
  :: TRef.binary (.of main_call4_v5 : TRef sig ⟨S_, .i32⟩) (.of main_call4_v7 : TRef sig ⟨S_, .i32⟩) (.of main_call4_call0_v0 : TRef sig ⟨S_, .i32⟩) xori
  :: TRef.nullary (.of main_call4_call0_c : TRef sig ⟨S_, .i32⟩) (constantI S_ 32 466688986#32)
  :: TRef.binary (.of main_call4_call0_v0 : TRef sig ⟨S_, .i32⟩) (.of main_call4_call0_c : TRef sig ⟨S_, .i32⟩) (.of main_call4_call0_v1 : TRef sig ⟨S_, .i32⟩) xori
  :: TRef.unary (.of main_call4_v5 : TRef sig ⟨S_, .i32⟩) (.of main_call4_call0_v2 : TRef sig ⟨S16x8192x32, .i32⟩) (broadcastInDim S16x8192x32 ![] bcast_S_S16x8192x32)
  :: TRef.binary (.of main_call4_v22 : TRef sig ⟨S16x8192x32, .i32⟩) (.of main_call4_call0_v2 : TRef sig ⟨S16x8192x32, .i32⟩) (.of main_call4_call0_v3 : TRef sig ⟨S16x8192x32, .i32⟩) addi
  :: TRef.unary (.of main_call4_v7 : TRef sig ⟨S_, .i32⟩) (.of main_call4_call0_v4 : TRef sig ⟨S16x8192x32, .i32⟩) (broadcastInDim S16x8192x32 ![] bcast_S_S16x8192x32)
  :: TRef.binary (.of main_call4_v21 : TRef sig ⟨S16x8192x32, .i32⟩) (.of main_call4_call0_v4 : TRef sig ⟨S16x8192x32, .i32⟩) (.of main_call4_call0_v5 : TRef sig ⟨S16x8192x32, .i32⟩) addi
  :: TRef.binary (.of main_call4_call0_v3 : TRef sig ⟨S16x8192x32, .i32⟩) (.of main_call4_call0_v5 : TRef sig ⟨S16x8192x32, .i32⟩) (.of main_call4_call0_v6 : TRef sig ⟨S16x8192x32, .i32⟩) addi
  :: TRef.nullary (.of main_call4_call0_c_0 : TRef sig ⟨S_, .i32⟩) (constantI S_ 32 13#32)
  :: TRef.unary (.of main_call4_call0_c_0 : TRef sig ⟨S_, .i32⟩) (.of main_call4_call0_v7 : TRef sig ⟨S16x8192x32, .i32⟩) (broadcastInDim S16x8192x32 ![] bcast_S_S16x8192x32)
  :: TRef.binary (.of main_call4_call0_v5 : TRef sig ⟨S16x8192x32, .i32⟩) (.of main_call4_call0_v7 : TRef sig ⟨S16x8192x32, .i32⟩) (.of main_call4_call0_v8 : TRef sig ⟨S16x8192x32, .i32⟩) Host.shli
  :: TRef.nullary (.of main_call4_call0_c_1 : TRef sig ⟨S_, .i32⟩) (constantI S_ 32 19#32)
  :: TRef.unary (.of main_call4_call0_c_1 : TRef sig ⟨S_, .i32⟩) (.of main_call4_call0_v9 : TRef sig ⟨S16x8192x32, .i32⟩) (broadcastInDim S16x8192x32 ![] bcast_S_S16x8192x32)
  :: TRef.binary (.of main_call4_call0_v5 : TRef sig ⟨S16x8192x32, .i32⟩) (.of main_call4_call0_v9 : TRef sig ⟨S16x8192x32, .i32⟩) (.of main_call4_call0_v10 : TRef sig ⟨S16x8192x32, .i32⟩) Host.shrui
  :: TRef.binary (.of main_call4_call0_v8 : TRef sig ⟨S16x8192x32, .i32⟩) (.of main_call4_call0_v10 : TRef sig ⟨S16x8192x32, .i32⟩) (.of main_call4_call0_v11 : TRef sig ⟨S16x8192x32, .i32⟩) ori
  :: TRef.binary (.of main_call4_call0_v6 : TRef sig ⟨S16x8192x32, .i32⟩) (.of main_call4_call0_v11 : TRef sig ⟨S16x8192x32, .i32⟩) (.of main_call4_call0_v12 : TRef sig ⟨S16x8192x32, .i32⟩) xori
  :: TRef.binary (.of main_call4_call0_v6 : TRef sig ⟨S16x8192x32, .i32⟩) (.of main_call4_call0_v12 : TRef sig ⟨S16x8192x32, .i32⟩) (.of main_call4_call0_v13 : TRef sig ⟨S16x8192x32, .i32⟩) addi
  :: TRef.nullary (.of main_call4_call0_c_2 : TRef sig ⟨S_, .i32⟩) (constantI S_ 32 15#32)
  :: TRef.unary (.of main_call4_call0_c_2 : TRef sig ⟨S_, .i32⟩) (.of main_call4_call0_v14 : TRef sig ⟨S16x8192x32, .i32⟩) (broadcastInDim S16x8192x32 ![] bcast_S_S16x8192x32)
  :: TRef.binary (.of main_call4_call0_v12 : TRef sig ⟨S16x8192x32, .i32⟩) (.of main_call4_call0_v14 : TRef sig ⟨S16x8192x32, .i32⟩) (.of main_call4_call0_v15 : TRef sig ⟨S16x8192x32, .i32⟩) Host.shli
  :: TRef.nullary (.of main_call4_call0_c_3 : TRef sig ⟨S_, .i32⟩) (constantI S_ 32 17#32)
  :: TRef.unary (.of main_call4_call0_c_3 : TRef sig ⟨S_, .i32⟩) (.of main_call4_call0_v16 : TRef sig ⟨S16x8192x32, .i32⟩) (broadcastInDim S16x8192x32 ![] bcast_S_S16x8192x32)
  :: TRef.binary (.of main_call4_call0_v12 : TRef sig ⟨S16x8192x32, .i32⟩) (.of main_call4_call0_v16 : TRef sig ⟨S16x8192x32, .i32⟩) (.of main_call4_call0_v17 : TRef sig ⟨S16x8192x32, .i32⟩) Host.shrui
  :: TRef.binary (.of main_call4_call0_v15 : TRef sig ⟨S16x8192x32, .i32⟩) (.of main_call4_call0_v17 : TRef sig ⟨S16x8192x32, .i32⟩) (.of main_call4_call0_v18 : TRef sig ⟨S16x8192x32, .i32⟩) ori
  :: TRef.binary (.of main_call4_call0_v13 : TRef sig ⟨S16x8192x32, .i32⟩) (.of main_call4_call0_v18 : TRef sig ⟨S16x8192x32, .i32⟩) (.of main_call4_call0_v19 : TRef sig ⟨S16x8192x32, .i32⟩) xori
  :: TRef.binary (.of main_call4_call0_v13 : TRef sig ⟨S16x8192x32, .i32⟩) (.of main_call4_call0_v19 : TRef sig ⟨S16x8192x32, .i32⟩) (.of main_call4_call0_v20 : TRef sig ⟨S16x8192x32, .i32⟩) addi
  :: TRef.nullary (.of main_call4_call0_c_4 : TRef sig ⟨S_, .i32⟩) (constantI S_ 32 26#32)
  :: TRef.unary (.of main_call4_call0_c_4 : TRef sig ⟨S_, .i32⟩) (.of main_call4_call0_v21 : TRef sig ⟨S16x8192x32, .i32⟩) (broadcastInDim S16x8192x32 ![] bcast_S_S16x8192x32)
  :: TRef.binary (.of main_call4_call0_v19 : TRef sig ⟨S16x8192x32, .i32⟩) (.of main_call4_call0_v21 : TRef sig ⟨S16x8192x32, .i32⟩) (.of main_call4_call0_v22 : TRef sig ⟨S16x8192x32, .i32⟩) Host.shli
  :: TRef.nullary (.of main_call4_call0_c_5 : TRef sig ⟨S_, .i32⟩) (constantI S_ 32 6#32)
  :: TRef.unary (.of main_call4_call0_c_5 : TRef sig ⟨S_, .i32⟩) (.of main_call4_call0_v23 : TRef sig ⟨S16x8192x32, .i32⟩) (broadcastInDim S16x8192x32 ![] bcast_S_S16x8192x32)
  :: TRef.binary (.of main_call4_call0_v19 : TRef sig ⟨S16x8192x32, .i32⟩) (.of main_call4_call0_v23 : TRef sig ⟨S16x8192x32, .i32⟩) (.of main_call4_call0_v24 : TRef sig ⟨S16x8192x32, .i32⟩) Host.shrui
  :: TRef.binary (.of main_call4_call0_v22 : TRef sig ⟨S16x8192x32, .i32⟩) (.of main_call4_call0_v24 : TRef sig ⟨S16x8192x32, .i32⟩) (.of main_call4_call0_v25 : TRef sig ⟨S16x8192x32, .i32⟩) ori
  :: TRef.binary (.of main_call4_call0_v20 : TRef sig ⟨S16x8192x32, .i32⟩) (.of main_call4_call0_v25 : TRef sig ⟨S16x8192x32, .i32⟩) (.of main_call4_call0_v26 : TRef sig ⟨S16x8192x32, .i32⟩) xori
  :: TRef.binary (.of main_call4_call0_v20 : TRef sig ⟨S16x8192x32, .i32⟩) (.of main_call4_call0_v26 : TRef sig ⟨S16x8192x32, .i32⟩) (.of main_call4_call0_v27 : TRef sig ⟨S16x8192x32, .i32⟩) addi
  :: TRef.nullary (.of main_call4_call0_c_6 : TRef sig ⟨S_, .i32⟩) (constantI S_ 32 6#32)
  :: TRef.unary (.of main_call4_call0_c_6 : TRef sig ⟨S_, .i32⟩) (.of main_call4_call0_v28 : TRef sig ⟨S16x8192x32, .i32⟩) (broadcastInDim S16x8192x32 ![] bcast_S_S16x8192x32)
  :: TRef.binary (.of main_call4_call0_v26 : TRef sig ⟨S16x8192x32, .i32⟩) (.of main_call4_call0_v28 : TRef sig ⟨S16x8192x32, .i32⟩) (.of main_call4_call0_v29 : TRef sig ⟨S16x8192x32, .i32⟩) Host.shli
  :: TRef.nullary (.of main_call4_call0_c_7 : TRef sig ⟨S_, .i32⟩) (constantI S_ 32 26#32)
  :: TRef.unary (.of main_call4_call0_c_7 : TRef sig ⟨S_, .i32⟩) (.of main_call4_call0_v30 : TRef sig ⟨S16x8192x32, .i32⟩) (broadcastInDim S16x8192x32 ![] bcast_S_S16x8192x32)
  :: TRef.binary (.of main_call4_call0_v26 : TRef sig ⟨S16x8192x32, .i32⟩) (.of main_call4_call0_v30 : TRef sig ⟨S16x8192x32, .i32⟩) (.of main_call4_call0_v31 : TRef sig ⟨S16x8192x32, .i32⟩) Host.shrui
  :: TRef.binary (.of main_call4_call0_v29 : TRef sig ⟨S16x8192x32, .i32⟩) (.of main_call4_call0_v31 : TRef sig ⟨S16x8192x32, .i32⟩) (.of main_call4_call0_v32 : TRef sig ⟨S16x8192x32, .i32⟩) ori
  :: TRef.binary (.of main_call4_call0_v27 : TRef sig ⟨S16x8192x32, .i32⟩) (.of main_call4_call0_v32 : TRef sig ⟨S16x8192x32, .i32⟩) (.of main_call4_call0_v33 : TRef sig ⟨S16x8192x32, .i32⟩) xori
  :: TRef.unary (.of main_call4_v7 : TRef sig ⟨S_, .i32⟩) (.of main_call4_call0_v34 : TRef sig ⟨S16x8192x32, .i32⟩) (broadcastInDim S16x8192x32 ![] bcast_S_S16x8192x32)
  :: TRef.binary (.of main_call4_call0_v27 : TRef sig ⟨S16x8192x32, .i32⟩) (.of main_call4_call0_v34 : TRef sig ⟨S16x8192x32, .i32⟩) (.of main_call4_call0_v35 : TRef sig ⟨S16x8192x32, .i32⟩) addi
  :: TRef.unary (.of main_call4_call0_v1 : TRef sig ⟨S_, .i32⟩) (.of main_call4_call0_v36 : TRef sig ⟨S16x8192x32, .i32⟩) (broadcastInDim S16x8192x32 ![] bcast_S_S16x8192x32)
  :: TRef.binary (.of main_call4_call0_v33 : TRef sig ⟨S16x8192x32, .i32⟩) (.of main_call4_call0_v36 : TRef sig ⟨S16x8192x32, .i32⟩) (.of main_call4_call0_v37 : TRef sig ⟨S16x8192x32, .i32⟩) addi
  :: TRef.nullary (.of main_call4_call0_c_8 : TRef sig ⟨S_, .i32⟩) (constantI S_ 32 1#32)
  :: TRef.unary (.of main_call4_call0_c_8 : TRef sig ⟨S_, .i32⟩) (.of main_call4_call0_v38 : TRef sig ⟨S16x8192x32, .i32⟩) (broadcastInDim S16x8192x32 ![] bcast_S_S16x8192x32)
  :: TRef.binary (.of main_call4_call0_v37 : TRef sig ⟨S16x8192x32, .i32⟩) (.of main_call4_call0_v38 : TRef sig ⟨S16x8192x32, .i32⟩) (.of main_call4_call0_v39 : TRef sig ⟨S16x8192x32, .i32⟩) addi
  :: TRef.binary (.of main_call4_call0_v35 : TRef sig ⟨S16x8192x32, .i32⟩) (.of main_call4_call0_v39 : TRef sig ⟨S16x8192x32, .i32⟩) (.of main_call4_call0_v40 : TRef sig ⟨S16x8192x32, .i32⟩) addi
  :: TRef.nullary (.of main_call4_call0_c_9 : TRef sig ⟨S_, .i32⟩) (constantI S_ 32 17#32)
  :: TRef.unary (.of main_call4_call0_c_9 : TRef sig ⟨S_, .i32⟩) (.of main_call4_call0_v41 : TRef sig ⟨S16x8192x32, .i32⟩) (broadcastInDim S16x8192x32 ![] bcast_S_S16x8192x32)
  :: TRef.binary (.of main_call4_call0_v39 : TRef sig ⟨S16x8192x32, .i32⟩) (.of main_call4_call0_v41 : TRef sig ⟨S16x8192x32, .i32⟩) (.of main_call4_call0_v42 : TRef sig ⟨S16x8192x32, .i32⟩) Host.shli
  :: TRef.nullary (.of main_call4_call0_c_10 : TRef sig ⟨S_, .i32⟩) (constantI S_ 32 15#32)
  :: TRef.unary (.of main_call4_call0_c_10 : TRef sig ⟨S_, .i32⟩) (.of main_call4_call0_v43 : TRef sig ⟨S16x8192x32, .i32⟩) (broadcastInDim S16x8192x32 ![] bcast_S_S16x8192x32)
  :: TRef.binary (.of main_call4_call0_v39 : TRef sig ⟨S16x8192x32, .i32⟩) (.of main_call4_call0_v43 : TRef sig ⟨S16x8192x32, .i32⟩) (.of main_call4_call0_v44 : TRef sig ⟨S16x8192x32, .i32⟩) Host.shrui
  :: TRef.binary (.of main_call4_call0_v42 : TRef sig ⟨S16x8192x32, .i32⟩) (.of main_call4_call0_v44 : TRef sig ⟨S16x8192x32, .i32⟩) (.of main_call4_call0_v45 : TRef sig ⟨S16x8192x32, .i32⟩) ori
  :: TRef.binary (.of main_call4_call0_v40 : TRef sig ⟨S16x8192x32, .i32⟩) (.of main_call4_call0_v45 : TRef sig ⟨S16x8192x32, .i32⟩) (.of main_call4_call0_v46 : TRef sig ⟨S16x8192x32, .i32⟩) xori
  :: TRef.binary (.of main_call4_call0_v40 : TRef sig ⟨S16x8192x32, .i32⟩) (.of main_call4_call0_v46 : TRef sig ⟨S16x8192x32, .i32⟩) (.of main_call4_call0_v47 : TRef sig ⟨S16x8192x32, .i32⟩) addi
  :: TRef.nullary (.of main_call4_call0_c_11 : TRef sig ⟨S_, .i32⟩) (constantI S_ 32 29#32)
  :: TRef.unary (.of main_call4_call0_c_11 : TRef sig ⟨S_, .i32⟩) (.of main_call4_call0_v48 : TRef sig ⟨S16x8192x32, .i32⟩) (broadcastInDim S16x8192x32 ![] bcast_S_S16x8192x32)
  :: TRef.binary (.of main_call4_call0_v46 : TRef sig ⟨S16x8192x32, .i32⟩) (.of main_call4_call0_v48 : TRef sig ⟨S16x8192x32, .i32⟩) (.of main_call4_call0_v49 : TRef sig ⟨S16x8192x32, .i32⟩) Host.shli
  :: TRef.nullary (.of main_call4_call0_c_12 : TRef sig ⟨S_, .i32⟩) (constantI S_ 32 3#32)
  :: TRef.unary (.of main_call4_call0_c_12 : TRef sig ⟨S_, .i32⟩) (.of main_call4_call0_v50 : TRef sig ⟨S16x8192x32, .i32⟩) (broadcastInDim S16x8192x32 ![] bcast_S_S16x8192x32)
  :: TRef.binary (.of main_call4_call0_v46 : TRef sig ⟨S16x8192x32, .i32⟩) (.of main_call4_call0_v50 : TRef sig ⟨S16x8192x32, .i32⟩) (.of main_call4_call0_v51 : TRef sig ⟨S16x8192x32, .i32⟩) Host.shrui
  :: TRef.binary (.of main_call4_call0_v49 : TRef sig ⟨S16x8192x32, .i32⟩) (.of main_call4_call0_v51 : TRef sig ⟨S16x8192x32, .i32⟩) (.of main_call4_call0_v52 : TRef sig ⟨S16x8192x32, .i32⟩) ori
  :: TRef.binary (.of main_call4_call0_v47 : TRef sig ⟨S16x8192x32, .i32⟩) (.of main_call4_call0_v52 : TRef sig ⟨S16x8192x32, .i32⟩) (.of main_call4_call0_v53 : TRef sig ⟨S16x8192x32, .i32⟩) xori
  :: TRef.binary (.of main_call4_call0_v47 : TRef sig ⟨S16x8192x32, .i32⟩) (.of main_call4_call0_v53 : TRef sig ⟨S16x8192x32, .i32⟩) (.of main_call4_call0_v54 : TRef sig ⟨S16x8192x32, .i32⟩) addi
  :: TRef.nullary (.of main_call4_call0_c_13 : TRef sig ⟨S_, .i32⟩) (constantI S_ 32 16#32)
  :: TRef.unary (.of main_call4_call0_c_13 : TRef sig ⟨S_, .i32⟩) (.of main_call4_call0_v55 : TRef sig ⟨S16x8192x32, .i32⟩) (broadcastInDim S16x8192x32 ![] bcast_S_S16x8192x32)
  :: TRef.binary (.of main_call4_call0_v53 : TRef sig ⟨S16x8192x32, .i32⟩) (.of main_call4_call0_v55 : TRef sig ⟨S16x8192x32, .i32⟩) (.of main_call4_call0_v56 : TRef sig ⟨S16x8192x32, .i32⟩) Host.shli
  :: TRef.nullary (.of main_call4_call0_c_14 : TRef sig ⟨S_, .i32⟩) (constantI S_ 32 16#32)
  :: TRef.unary (.of main_call4_call0_c_14 : TRef sig ⟨S_, .i32⟩) (.of main_call4_call0_v57 : TRef sig ⟨S16x8192x32, .i32⟩) (broadcastInDim S16x8192x32 ![] bcast_S_S16x8192x32)
  :: TRef.binary (.of main_call4_call0_v53 : TRef sig ⟨S16x8192x32, .i32⟩) (.of main_call4_call0_v57 : TRef sig ⟨S16x8192x32, .i32⟩) (.of main_call4_call0_v58 : TRef sig ⟨S16x8192x32, .i32⟩) Host.shrui
  :: TRef.binary (.of main_call4_call0_v56 : TRef sig ⟨S16x8192x32, .i32⟩) (.of main_call4_call0_v58 : TRef sig ⟨S16x8192x32, .i32⟩) (.of main_call4_call0_v59 : TRef sig ⟨S16x8192x32, .i32⟩) ori
  :: TRef.binary (.of main_call4_call0_v54 : TRef sig ⟨S16x8192x32, .i32⟩) (.of main_call4_call0_v59 : TRef sig ⟨S16x8192x32, .i32⟩) (.of main_call4_call0_v60 : TRef sig ⟨S16x8192x32, .i32⟩) xori
  :: TRef.binary (.of main_call4_call0_v54 : TRef sig ⟨S16x8192x32, .i32⟩) (.of main_call4_call0_v60 : TRef sig ⟨S16x8192x32, .i32⟩) (.of main_call4_call0_v61 : TRef sig ⟨S16x8192x32, .i32⟩) addi
  :: TRef.nullary (.of main_call4_call0_c_15 : TRef sig ⟨S_, .i32⟩) (constantI S_ 32 24#32)
  :: TRef.unary (.of main_call4_call0_c_15 : TRef sig ⟨S_, .i32⟩) (.of main_call4_call0_v62 : TRef sig ⟨S16x8192x32, .i32⟩) (broadcastInDim S16x8192x32 ![] bcast_S_S16x8192x32)
  :: TRef.binary (.of main_call4_call0_v60 : TRef sig ⟨S16x8192x32, .i32⟩) (.of main_call4_call0_v62 : TRef sig ⟨S16x8192x32, .i32⟩) (.of main_call4_call0_v63 : TRef sig ⟨S16x8192x32, .i32⟩) Host.shli
  :: TRef.nullary (.of main_call4_call0_c_16 : TRef sig ⟨S_, .i32⟩) (constantI S_ 32 8#32)
  :: TRef.unary (.of main_call4_call0_c_16 : TRef sig ⟨S_, .i32⟩) (.of main_call4_call0_v64 : TRef sig ⟨S16x8192x32, .i32⟩) (broadcastInDim S16x8192x32 ![] bcast_S_S16x8192x32)
  :: TRef.binary (.of main_call4_call0_v60 : TRef sig ⟨S16x8192x32, .i32⟩) (.of main_call4_call0_v64 : TRef sig ⟨S16x8192x32, .i32⟩) (.of main_call4_call0_v65 : TRef sig ⟨S16x8192x32, .i32⟩) Host.shrui
  :: TRef.binary (.of main_call4_call0_v63 : TRef sig ⟨S16x8192x32, .i32⟩) (.of main_call4_call0_v65 : TRef sig ⟨S16x8192x32, .i32⟩) (.of main_call4_call0_v66 : TRef sig ⟨S16x8192x32, .i32⟩) ori
  :: TRef.binary (.of main_call4_call0_v61 : TRef sig ⟨S16x8192x32, .i32⟩) (.of main_call4_call0_v66 : TRef sig ⟨S16x8192x32, .i32⟩) (.of main_call4_call0_v67 : TRef sig ⟨S16x8192x32, .i32⟩) xori
  :: TRef.unary (.of main_call4_call0_v1 : TRef sig ⟨S_, .i32⟩) (.of main_call4_call0_v68 : TRef sig ⟨S16x8192x32, .i32⟩) (broadcastInDim S16x8192x32 ![] bcast_S_S16x8192x32)
  :: TRef.binary (.of main_call4_call0_v61 : TRef sig ⟨S16x8192x32, .i32⟩) (.of main_call4_call0_v68 : TRef sig ⟨S16x8192x32, .i32⟩) (.of main_call4_call0_v69 : TRef sig ⟨S16x8192x32, .i32⟩) addi
  :: TRef.unary (.of main_call4_v5 : TRef sig ⟨S_, .i32⟩) (.of main_call4_call0_v70 : TRef sig ⟨S16x8192x32, .i32⟩) (broadcastInDim S16x8192x32 ![] bcast_S_S16x8192x32)
  :: TRef.binary (.of main_call4_call0_v67 : TRef sig ⟨S16x8192x32, .i32⟩) (.of main_call4_call0_v70 : TRef sig ⟨S16x8192x32, .i32⟩) (.of main_call4_call0_v71 : TRef sig ⟨S16x8192x32, .i32⟩) addi
  :: TRef.nullary (.of main_call4_call0_c_17 : TRef sig ⟨S_, .i32⟩) (constantI S_ 32 2#32)
  :: TRef.unary (.of main_call4_call0_c_17 : TRef sig ⟨S_, .i32⟩) (.of main_call4_call0_v72 : TRef sig ⟨S16x8192x32, .i32⟩) (broadcastInDim S16x8192x32 ![] bcast_S_S16x8192x32)
  :: TRef.binary (.of main_call4_call0_v71 : TRef sig ⟨S16x8192x32, .i32⟩) (.of main_call4_call0_v72 : TRef sig ⟨S16x8192x32, .i32⟩) (.of main_call4_call0_v73 : TRef sig ⟨S16x8192x32, .i32⟩) addi
  :: TRef.binary (.of main_call4_call0_v69 : TRef sig ⟨S16x8192x32, .i32⟩) (.of main_call4_call0_v73 : TRef sig ⟨S16x8192x32, .i32⟩) (.of main_call4_call0_v74 : TRef sig ⟨S16x8192x32, .i32⟩) addi
  :: TRef.nullary (.of main_call4_call0_c_18 : TRef sig ⟨S_, .i32⟩) (constantI S_ 32 13#32)
  :: TRef.unary (.of main_call4_call0_c_18 : TRef sig ⟨S_, .i32⟩) (.of main_call4_call0_v75 : TRef sig ⟨S16x8192x32, .i32⟩) (broadcastInDim S16x8192x32 ![] bcast_S_S16x8192x32)
  :: TRef.binary (.of main_call4_call0_v73 : TRef sig ⟨S16x8192x32, .i32⟩) (.of main_call4_call0_v75 : TRef sig ⟨S16x8192x32, .i32⟩) (.of main_call4_call0_v76 : TRef sig ⟨S16x8192x32, .i32⟩) Host.shli
  :: TRef.nullary (.of main_call4_call0_c_19 : TRef sig ⟨S_, .i32⟩) (constantI S_ 32 19#32)
  :: TRef.unary (.of main_call4_call0_c_19 : TRef sig ⟨S_, .i32⟩) (.of main_call4_call0_v77 : TRef sig ⟨S16x8192x32, .i32⟩) (broadcastInDim S16x8192x32 ![] bcast_S_S16x8192x32)
  :: TRef.binary (.of main_call4_call0_v73 : TRef sig ⟨S16x8192x32, .i32⟩) (.of main_call4_call0_v77 : TRef sig ⟨S16x8192x32, .i32⟩) (.of main_call4_call0_v78 : TRef sig ⟨S16x8192x32, .i32⟩) Host.shrui
  :: TRef.binary (.of main_call4_call0_v76 : TRef sig ⟨S16x8192x32, .i32⟩) (.of main_call4_call0_v78 : TRef sig ⟨S16x8192x32, .i32⟩) (.of main_call4_call0_v79 : TRef sig ⟨S16x8192x32, .i32⟩) ori
  :: TRef.binary (.of main_call4_call0_v74 : TRef sig ⟨S16x8192x32, .i32⟩) (.of main_call4_call0_v79 : TRef sig ⟨S16x8192x32, .i32⟩) (.of main_call4_call0_v80 : TRef sig ⟨S16x8192x32, .i32⟩) xori
  :: TRef.binary (.of main_call4_call0_v74 : TRef sig ⟨S16x8192x32, .i32⟩) (.of main_call4_call0_v80 : TRef sig ⟨S16x8192x32, .i32⟩) (.of main_call4_call0_v81 : TRef sig ⟨S16x8192x32, .i32⟩) addi
  :: TRef.nullary (.of main_call4_call0_c_20 : TRef sig ⟨S_, .i32⟩) (constantI S_ 32 15#32)
  :: TRef.unary (.of main_call4_call0_c_20 : TRef sig ⟨S_, .i32⟩) (.of main_call4_call0_v82 : TRef sig ⟨S16x8192x32, .i32⟩) (broadcastInDim S16x8192x32 ![] bcast_S_S16x8192x32)
  :: TRef.binary (.of main_call4_call0_v80 : TRef sig ⟨S16x8192x32, .i32⟩) (.of main_call4_call0_v82 : TRef sig ⟨S16x8192x32, .i32⟩) (.of main_call4_call0_v83 : TRef sig ⟨S16x8192x32, .i32⟩) Host.shli
  :: TRef.nullary (.of main_call4_call0_c_21 : TRef sig ⟨S_, .i32⟩) (constantI S_ 32 17#32)
  :: TRef.unary (.of main_call4_call0_c_21 : TRef sig ⟨S_, .i32⟩) (.of main_call4_call0_v84 : TRef sig ⟨S16x8192x32, .i32⟩) (broadcastInDim S16x8192x32 ![] bcast_S_S16x8192x32)
  :: TRef.binary (.of main_call4_call0_v80 : TRef sig ⟨S16x8192x32, .i32⟩) (.of main_call4_call0_v84 : TRef sig ⟨S16x8192x32, .i32⟩) (.of main_call4_call0_v85 : TRef sig ⟨S16x8192x32, .i32⟩) Host.shrui
  :: TRef.binary (.of main_call4_call0_v83 : TRef sig ⟨S16x8192x32, .i32⟩) (.of main_call4_call0_v85 : TRef sig ⟨S16x8192x32, .i32⟩) (.of main_call4_call0_v86 : TRef sig ⟨S16x8192x32, .i32⟩) ori
  :: TRef.binary (.of main_call4_call0_v81 : TRef sig ⟨S16x8192x32, .i32⟩) (.of main_call4_call0_v86 : TRef sig ⟨S16x8192x32, .i32⟩) (.of main_call4_call0_v87 : TRef sig ⟨S16x8192x32, .i32⟩) xori
  :: TRef.binary (.of main_call4_call0_v81 : TRef sig ⟨S16x8192x32, .i32⟩) (.of main_call4_call0_v87 : TRef sig ⟨S16x8192x32, .i32⟩) (.of main_call4_call0_v88 : TRef sig ⟨S16x8192x32, .i32⟩) addi
  :: TRef.nullary (.of main_call4_call0_c_22 : TRef sig ⟨S_, .i32⟩) (constantI S_ 32 26#32)
  :: TRef.unary (.of main_call4_call0_c_22 : TRef sig ⟨S_, .i32⟩) (.of main_call4_call0_v89 : TRef sig ⟨S16x8192x32, .i32⟩) (broadcastInDim S16x8192x32 ![] bcast_S_S16x8192x32)
  :: TRef.binary (.of main_call4_call0_v87 : TRef sig ⟨S16x8192x32, .i32⟩) (.of main_call4_call0_v89 : TRef sig ⟨S16x8192x32, .i32⟩) (.of main_call4_call0_v90 : TRef sig ⟨S16x8192x32, .i32⟩) Host.shli
  :: TRef.nullary (.of main_call4_call0_c_23 : TRef sig ⟨S_, .i32⟩) (constantI S_ 32 6#32)
  :: TRef.unary (.of main_call4_call0_c_23 : TRef sig ⟨S_, .i32⟩) (.of main_call4_call0_v91 : TRef sig ⟨S16x8192x32, .i32⟩) (broadcastInDim S16x8192x32 ![] bcast_S_S16x8192x32)
  :: TRef.binary (.of main_call4_call0_v87 : TRef sig ⟨S16x8192x32, .i32⟩) (.of main_call4_call0_v91 : TRef sig ⟨S16x8192x32, .i32⟩) (.of main_call4_call0_v92 : TRef sig ⟨S16x8192x32, .i32⟩) Host.shrui
  :: TRef.binary (.of main_call4_call0_v90 : TRef sig ⟨S16x8192x32, .i32⟩) (.of main_call4_call0_v92 : TRef sig ⟨S16x8192x32, .i32⟩) (.of main_call4_call0_v93 : TRef sig ⟨S16x8192x32, .i32⟩) ori
  :: TRef.binary (.of main_call4_call0_v88 : TRef sig ⟨S16x8192x32, .i32⟩) (.of main_call4_call0_v93 : TRef sig ⟨S16x8192x32, .i32⟩) (.of main_call4_call0_v94 : TRef sig ⟨S16x8192x32, .i32⟩) xori
  :: TRef.binary (.of main_call4_call0_v88 : TRef sig ⟨S16x8192x32, .i32⟩) (.of main_call4_call0_v94 : TRef sig ⟨S16x8192x32, .i32⟩) (.of main_call4_call0_v95 : TRef sig ⟨S16x8192x32, .i32⟩) addi
  :: TRef.nullary (.of main_call4_call0_c_24 : TRef sig ⟨S_, .i32⟩) (constantI S_ 32 6#32)
  :: TRef.unary (.of main_call4_call0_c_24 : TRef sig ⟨S_, .i32⟩) (.of main_call4_call0_v96 : TRef sig ⟨S16x8192x32, .i32⟩) (broadcastInDim S16x8192x32 ![] bcast_S_S16x8192x32)
  :: TRef.binary (.of main_call4_call0_v94 : TRef sig ⟨S16x8192x32, .i32⟩) (.of main_call4_call0_v96 : TRef sig ⟨S16x8192x32, .i32⟩) (.of main_call4_call0_v97 : TRef sig ⟨S16x8192x32, .i32⟩) Host.shli
  :: TRef.nullary (.of main_call4_call0_c_25 : TRef sig ⟨S_, .i32⟩) (constantI S_ 32 26#32)
  :: TRef.unary (.of main_call4_call0_c_25 : TRef sig ⟨S_, .i32⟩) (.of main_call4_call0_v98 : TRef sig ⟨S16x8192x32, .i32⟩) (broadcastInDim S16x8192x32 ![] bcast_S_S16x8192x32)
  :: TRef.binary (.of main_call4_call0_v94 : TRef sig ⟨S16x8192x32, .i32⟩) (.of main_call4_call0_v98 : TRef sig ⟨S16x8192x32, .i32⟩) (.of main_call4_call0_v99 : TRef sig ⟨S16x8192x32, .i32⟩) Host.shrui
  :: TRef.binary (.of main_call4_call0_v97 : TRef sig ⟨S16x8192x32, .i32⟩) (.of main_call4_call0_v99 : TRef sig ⟨S16x8192x32, .i32⟩) (.of main_call4_call0_v100 : TRef sig ⟨S16x8192x32, .i32⟩) ori
  :: TRef.binary (.of main_call4_call0_v95 : TRef sig ⟨S16x8192x32, .i32⟩) (.of main_call4_call0_v100 : TRef sig ⟨S16x8192x32, .i32⟩) (.of main_call4_call0_v101 : TRef sig ⟨S16x8192x32, .i32⟩) xori
  :: TRef.unary (.of main_call4_v5 : TRef sig ⟨S_, .i32⟩) (.of main_call4_call0_v102 : TRef sig ⟨S16x8192x32, .i32⟩) (broadcastInDim S16x8192x32 ![] bcast_S_S16x8192x32)
  :: TRef.binary (.of main_call4_call0_v95 : TRef sig ⟨S16x8192x32, .i32⟩) (.of main_call4_call0_v102 : TRef sig ⟨S16x8192x32, .i32⟩) (.of main_call4_call0_v103 : TRef sig ⟨S16x8192x32, .i32⟩) addi
  :: TRef.unary (.of main_call4_v7 : TRef sig ⟨S_, .i32⟩) (.of main_call4_call0_v104 : TRef sig ⟨S16x8192x32, .i32⟩) (broadcastInDim S16x8192x32 ![] bcast_S_S16x8192x32)
  :: TRef.binary (.of main_call4_call0_v101 : TRef sig ⟨S16x8192x32, .i32⟩) (.of main_call4_call0_v104 : TRef sig ⟨S16x8192x32, .i32⟩) (.of main_call4_call0_v105 : TRef sig ⟨S16x8192x32, .i32⟩) addi
  :: TRef.nullary (.of main_call4_call0_c_26 : TRef sig ⟨S_, .i32⟩) (constantI S_ 32 3#32)
  :: TRef.unary (.of main_call4_call0_c_26 : TRef sig ⟨S_, .i32⟩) (.of main_call4_call0_v106 : TRef sig ⟨S16x8192x32, .i32⟩) (broadcastInDim S16x8192x32 ![] bcast_S_S16x8192x32)
  :: TRef.binary (.of main_call4_call0_v105 : TRef sig ⟨S16x8192x32, .i32⟩) (.of main_call4_call0_v106 : TRef sig ⟨S16x8192x32, .i32⟩) (.of main_call4_call0_v107 : TRef sig ⟨S16x8192x32, .i32⟩) addi
  :: TRef.binary (.of main_call4_call0_v103 : TRef sig ⟨S16x8192x32, .i32⟩) (.of main_call4_call0_v107 : TRef sig ⟨S16x8192x32, .i32⟩) (.of main_call4_call0_v108 : TRef sig ⟨S16x8192x32, .i32⟩) addi
  :: TRef.nullary (.of main_call4_call0_c_27 : TRef sig ⟨S_, .i32⟩) (constantI S_ 32 17#32)
  :: TRef.unary (.of main_call4_call0_c_27 : TRef sig ⟨S_, .i32⟩) (.of main_call4_call0_v109 : TRef sig ⟨S16x8192x32, .i32⟩) (broadcastInDim S16x8192x32 ![] bcast_S_S16x8192x32)
  :: TRef.binary (.of main_call4_call0_v107 : TRef sig ⟨S16x8192x32, .i32⟩) (.of main_call4_call0_v109 : TRef sig ⟨S16x8192x32, .i32⟩) (.of main_call4_call0_v110 : TRef sig ⟨S16x8192x32, .i32⟩) Host.shli
  :: TRef.nullary (.of main_call4_call0_c_28 : TRef sig ⟨S_, .i32⟩) (constantI S_ 32 15#32)
  :: TRef.unary (.of main_call4_call0_c_28 : TRef sig ⟨S_, .i32⟩) (.of main_call4_call0_v111 : TRef sig ⟨S16x8192x32, .i32⟩) (broadcastInDim S16x8192x32 ![] bcast_S_S16x8192x32)
  :: TRef.binary (.of main_call4_call0_v107 : TRef sig ⟨S16x8192x32, .i32⟩) (.of main_call4_call0_v111 : TRef sig ⟨S16x8192x32, .i32⟩) (.of main_call4_call0_v112 : TRef sig ⟨S16x8192x32, .i32⟩) Host.shrui
  :: TRef.binary (.of main_call4_call0_v110 : TRef sig ⟨S16x8192x32, .i32⟩) (.of main_call4_call0_v112 : TRef sig ⟨S16x8192x32, .i32⟩) (.of main_call4_call0_v113 : TRef sig ⟨S16x8192x32, .i32⟩) ori
  :: TRef.binary (.of main_call4_call0_v108 : TRef sig ⟨S16x8192x32, .i32⟩) (.of main_call4_call0_v113 : TRef sig ⟨S16x8192x32, .i32⟩) (.of main_call4_call0_v114 : TRef sig ⟨S16x8192x32, .i32⟩) xori
  :: TRef.binary (.of main_call4_call0_v108 : TRef sig ⟨S16x8192x32, .i32⟩) (.of main_call4_call0_v114 : TRef sig ⟨S16x8192x32, .i32⟩) (.of main_call4_call0_v115 : TRef sig ⟨S16x8192x32, .i32⟩) addi
  :: TRef.nullary (.of main_call4_call0_c_29 : TRef sig ⟨S_, .i32⟩) (constantI S_ 32 29#32)
  :: TRef.unary (.of main_call4_call0_c_29 : TRef sig ⟨S_, .i32⟩) (.of main_call4_call0_v116 : TRef sig ⟨S16x8192x32, .i32⟩) (broadcastInDim S16x8192x32 ![] bcast_S_S16x8192x32)
  :: TRef.binary (.of main_call4_call0_v114 : TRef sig ⟨S16x8192x32, .i32⟩) (.of main_call4_call0_v116 : TRef sig ⟨S16x8192x32, .i32⟩) (.of main_call4_call0_v117 : TRef sig ⟨S16x8192x32, .i32⟩) Host.shli
  :: TRef.nullary (.of main_call4_call0_c_30 : TRef sig ⟨S_, .i32⟩) (constantI S_ 32 3#32)
  :: TRef.unary (.of main_call4_call0_c_30 : TRef sig ⟨S_, .i32⟩) (.of main_call4_call0_v118 : TRef sig ⟨S16x8192x32, .i32⟩) (broadcastInDim S16x8192x32 ![] bcast_S_S16x8192x32)
  :: TRef.binary (.of main_call4_call0_v114 : TRef sig ⟨S16x8192x32, .i32⟩) (.of main_call4_call0_v118 : TRef sig ⟨S16x8192x32, .i32⟩) (.of main_call4_call0_v119 : TRef sig ⟨S16x8192x32, .i32⟩) Host.shrui
  :: TRef.binary (.of main_call4_call0_v117 : TRef sig ⟨S16x8192x32, .i32⟩) (.of main_call4_call0_v119 : TRef sig ⟨S16x8192x32, .i32⟩) (.of main_call4_call0_v120 : TRef sig ⟨S16x8192x32, .i32⟩) ori
  :: TRef.binary (.of main_call4_call0_v115 : TRef sig ⟨S16x8192x32, .i32⟩) (.of main_call4_call0_v120 : TRef sig ⟨S16x8192x32, .i32⟩) (.of main_call4_call0_v121 : TRef sig ⟨S16x8192x32, .i32⟩) xori
  :: TRef.binary (.of main_call4_call0_v115 : TRef sig ⟨S16x8192x32, .i32⟩) (.of main_call4_call0_v121 : TRef sig ⟨S16x8192x32, .i32⟩) (.of main_call4_call0_v122 : TRef sig ⟨S16x8192x32, .i32⟩) addi
  :: TRef.nullary (.of main_call4_call0_c_31 : TRef sig ⟨S_, .i32⟩) (constantI S_ 32 16#32)
  :: TRef.unary (.of main_call4_call0_c_31 : TRef sig ⟨S_, .i32⟩) (.of main_call4_call0_v123 : TRef sig ⟨S16x8192x32, .i32⟩) (broadcastInDim S16x8192x32 ![] bcast_S_S16x8192x32)
  :: TRef.binary (.of main_call4_call0_v121 : TRef sig ⟨S16x8192x32, .i32⟩) (.of main_call4_call0_v123 : TRef sig ⟨S16x8192x32, .i32⟩) (.of main_call4_call0_v124 : TRef sig ⟨S16x8192x32, .i32⟩) Host.shli
  :: TRef.nullary (.of main_call4_call0_c_32 : TRef sig ⟨S_, .i32⟩) (constantI S_ 32 16#32)
  :: TRef.unary (.of main_call4_call0_c_32 : TRef sig ⟨S_, .i32⟩) (.of main_call4_call0_v125 : TRef sig ⟨S16x8192x32, .i32⟩) (broadcastInDim S16x8192x32 ![] bcast_S_S16x8192x32)
  :: TRef.binary (.of main_call4_call0_v121 : TRef sig ⟨S16x8192x32, .i32⟩) (.of main_call4_call0_v125 : TRef sig ⟨S16x8192x32, .i32⟩) (.of main_call4_call0_v126 : TRef sig ⟨S16x8192x32, .i32⟩) Host.shrui
  :: TRef.binary (.of main_call4_call0_v124 : TRef sig ⟨S16x8192x32, .i32⟩) (.of main_call4_call0_v126 : TRef sig ⟨S16x8192x32, .i32⟩) (.of main_call4_call0_v127 : TRef sig ⟨S16x8192x32, .i32⟩) ori
  :: TRef.binary (.of main_call4_call0_v122 : TRef sig ⟨S16x8192x32, .i32⟩) (.of main_call4_call0_v127 : TRef sig ⟨S16x8192x32, .i32⟩) (.of main_call4_call0_v128 : TRef sig ⟨S16x8192x32, .i32⟩) xori
  :: TRef.binary (.of main_call4_call0_v122 : TRef sig ⟨S16x8192x32, .i32⟩) (.of main_call4_call0_v128 : TRef sig ⟨S16x8192x32, .i32⟩) (.of main_call4_call0_v129 : TRef sig ⟨S16x8192x32, .i32⟩) addi
  :: TRef.nullary (.of main_call4_call0_c_33 : TRef sig ⟨S_, .i32⟩) (constantI S_ 32 24#32)
  :: TRef.unary (.of main_call4_call0_c_33 : TRef sig ⟨S_, .i32⟩) (.of main_call4_call0_v130 : TRef sig ⟨S16x8192x32, .i32⟩) (broadcastInDim S16x8192x32 ![] bcast_S_S16x8192x32)
  :: TRef.binary (.of main_call4_call0_v128 : TRef sig ⟨S16x8192x32, .i32⟩) (.of main_call4_call0_v130 : TRef sig ⟨S16x8192x32, .i32⟩) (.of main_call4_call0_v131 : TRef sig ⟨S16x8192x32, .i32⟩) Host.shli
  :: TRef.nullary (.of main_call4_call0_c_34 : TRef sig ⟨S_, .i32⟩) (constantI S_ 32 8#32)
  :: TRef.unary (.of main_call4_call0_c_34 : TRef sig ⟨S_, .i32⟩) (.of main_call4_call0_v132 : TRef sig ⟨S16x8192x32, .i32⟩) (broadcastInDim S16x8192x32 ![] bcast_S_S16x8192x32)
  :: TRef.binary (.of main_call4_call0_v128 : TRef sig ⟨S16x8192x32, .i32⟩) (.of main_call4_call0_v132 : TRef sig ⟨S16x8192x32, .i32⟩) (.of main_call4_call0_v133 : TRef sig ⟨S16x8192x32, .i32⟩) Host.shrui
  :: TRef.binary (.of main_call4_call0_v131 : TRef sig ⟨S16x8192x32, .i32⟩) (.of main_call4_call0_v133 : TRef sig ⟨S16x8192x32, .i32⟩) (.of main_call4_call0_v134 : TRef sig ⟨S16x8192x32, .i32⟩) ori
  :: TRef.binary (.of main_call4_call0_v129 : TRef sig ⟨S16x8192x32, .i32⟩) (.of main_call4_call0_v134 : TRef sig ⟨S16x8192x32, .i32⟩) (.of main_call4_call0_v135 : TRef sig ⟨S16x8192x32, .i32⟩) xori
  :: TRef.unary (.of main_call4_v7 : TRef sig ⟨S_, .i32⟩) (.of main_call4_call0_v136 : TRef sig ⟨S16x8192x32, .i32⟩) (broadcastInDim S16x8192x32 ![] bcast_S_S16x8192x32)
  :: TRef.binary (.of main_call4_call0_v129 : TRef sig ⟨S16x8192x32, .i32⟩) (.of main_call4_call0_v136 : TRef sig ⟨S16x8192x32, .i32⟩) (.of main_call4_call0_v137 : TRef sig ⟨S16x8192x32, .i32⟩) addi
  :: TRef.unary (.of main_call4_call0_v1 : TRef sig ⟨S_, .i32⟩) (.of main_call4_call0_v138 : TRef sig ⟨S16x8192x32, .i32⟩) (broadcastInDim S16x8192x32 ![] bcast_S_S16x8192x32)
  :: TRef.binary (.of main_call4_call0_v135 : TRef sig ⟨S16x8192x32, .i32⟩) (.of main_call4_call0_v138 : TRef sig ⟨S16x8192x32, .i32⟩) (.of main_call4_call0_v139 : TRef sig ⟨S16x8192x32, .i32⟩) addi
  :: TRef.nullary (.of main_call4_call0_c_35 : TRef sig ⟨S_, .i32⟩) (constantI S_ 32 4#32)
  :: TRef.unary (.of main_call4_call0_c_35 : TRef sig ⟨S_, .i32⟩) (.of main_call4_call0_v140 : TRef sig ⟨S16x8192x32, .i32⟩) (broadcastInDim S16x8192x32 ![] bcast_S_S16x8192x32)
  :: TRef.binary (.of main_call4_call0_v139 : TRef sig ⟨S16x8192x32, .i32⟩) (.of main_call4_call0_v140 : TRef sig ⟨S16x8192x32, .i32⟩) (.of main_call4_call0_v141 : TRef sig ⟨S16x8192x32, .i32⟩) addi
  :: TRef.binary (.of main_call4_call0_v137 : TRef sig ⟨S16x8192x32, .i32⟩) (.of main_call4_call0_v141 : TRef sig ⟨S16x8192x32, .i32⟩) (.of main_call4_call0_v142 : TRef sig ⟨S16x8192x32, .i32⟩) addi
  :: TRef.nullary (.of main_call4_call0_c_36 : TRef sig ⟨S_, .i32⟩) (constantI S_ 32 13#32)
  :: TRef.unary (.of main_call4_call0_c_36 : TRef sig ⟨S_, .i32⟩) (.of main_call4_call0_v143 : TRef sig ⟨S16x8192x32, .i32⟩) (broadcastInDim S16x8192x32 ![] bcast_S_S16x8192x32)
  :: TRef.binary (.of main_call4_call0_v141 : TRef sig ⟨S16x8192x32, .i32⟩) (.of main_call4_call0_v143 : TRef sig ⟨S16x8192x32, .i32⟩) (.of main_call4_call0_v144 : TRef sig ⟨S16x8192x32, .i32⟩) Host.shli
  :: TRef.nullary (.of main_call4_call0_c_37 : TRef sig ⟨S_, .i32⟩) (constantI S_ 32 19#32)
  :: TRef.unary (.of main_call4_call0_c_37 : TRef sig ⟨S_, .i32⟩) (.of main_call4_call0_v145 : TRef sig ⟨S16x8192x32, .i32⟩) (broadcastInDim S16x8192x32 ![] bcast_S_S16x8192x32)
  :: TRef.binary (.of main_call4_call0_v141 : TRef sig ⟨S16x8192x32, .i32⟩) (.of main_call4_call0_v145 : TRef sig ⟨S16x8192x32, .i32⟩) (.of main_call4_call0_v146 : TRef sig ⟨S16x8192x32, .i32⟩) Host.shrui
  :: TRef.binary (.of main_call4_call0_v144 : TRef sig ⟨S16x8192x32, .i32⟩) (.of main_call4_call0_v146 : TRef sig ⟨S16x8192x32, .i32⟩) (.of main_call4_call0_v147 : TRef sig ⟨S16x8192x32, .i32⟩) ori
  :: TRef.binary (.of main_call4_call0_v142 : TRef sig ⟨S16x8192x32, .i32⟩) (.of main_call4_call0_v147 : TRef sig ⟨S16x8192x32, .i32⟩) (.of main_call4_call0_v148 : TRef sig ⟨S16x8192x32, .i32⟩) xori
  :: TRef.binary (.of main_call4_call0_v142 : TRef sig ⟨S16x8192x32, .i32⟩) (.of main_call4_call0_v148 : TRef sig ⟨S16x8192x32, .i32⟩) (.of main_call4_call0_v149 : TRef sig ⟨S16x8192x32, .i32⟩) addi
  :: TRef.nullary (.of main_call4_call0_c_38 : TRef sig ⟨S_, .i32⟩) (constantI S_ 32 15#32)
  :: TRef.unary (.of main_call4_call0_c_38 : TRef sig ⟨S_, .i32⟩) (.of main_call4_call0_v150 : TRef sig ⟨S16x8192x32, .i32⟩) (broadcastInDim S16x8192x32 ![] bcast_S_S16x8192x32)
  :: TRef.binary (.of main_call4_call0_v148 : TRef sig ⟨S16x8192x32, .i32⟩) (.of main_call4_call0_v150 : TRef sig ⟨S16x8192x32, .i32⟩) (.of main_call4_call0_v151 : TRef sig ⟨S16x8192x32, .i32⟩) Host.shli
  :: TRef.nullary (.of main_call4_call0_c_39 : TRef sig ⟨S_, .i32⟩) (constantI S_ 32 17#32)
  :: TRef.unary (.of main_call4_call0_c_39 : TRef sig ⟨S_, .i32⟩) (.of main_call4_call0_v152 : TRef sig ⟨S16x8192x32, .i32⟩) (broadcastInDim S16x8192x32 ![] bcast_S_S16x8192x32)
  :: TRef.binary (.of main_call4_call0_v148 : TRef sig ⟨S16x8192x32, .i32⟩) (.of main_call4_call0_v152 : TRef sig ⟨S16x8192x32, .i32⟩) (.of main_call4_call0_v153 : TRef sig ⟨S16x8192x32, .i32⟩) Host.shrui
  :: TRef.binary (.of main_call4_call0_v151 : TRef sig ⟨S16x8192x32, .i32⟩) (.of main_call4_call0_v153 : TRef sig ⟨S16x8192x32, .i32⟩) (.of main_call4_call0_v154 : TRef sig ⟨S16x8192x32, .i32⟩) ori
  :: TRef.binary (.of main_call4_call0_v149 : TRef sig ⟨S16x8192x32, .i32⟩) (.of main_call4_call0_v154 : TRef sig ⟨S16x8192x32, .i32⟩) (.of main_call4_call0_v155 : TRef sig ⟨S16x8192x32, .i32⟩) xori
  :: TRef.binary (.of main_call4_call0_v149 : TRef sig ⟨S16x8192x32, .i32⟩) (.of main_call4_call0_v155 : TRef sig ⟨S16x8192x32, .i32⟩) (.of main_call4_call0_v156 : TRef sig ⟨S16x8192x32, .i32⟩) addi
  :: TRef.nullary (.of main_call4_call0_c_40 : TRef sig ⟨S_, .i32⟩) (constantI S_ 32 26#32)
  :: TRef.unary (.of main_call4_call0_c_40 : TRef sig ⟨S_, .i32⟩) (.of main_call4_call0_v157 : TRef sig ⟨S16x8192x32, .i32⟩) (broadcastInDim S16x8192x32 ![] bcast_S_S16x8192x32)
  :: TRef.binary (.of main_call4_call0_v155 : TRef sig ⟨S16x8192x32, .i32⟩) (.of main_call4_call0_v157 : TRef sig ⟨S16x8192x32, .i32⟩) (.of main_call4_call0_v158 : TRef sig ⟨S16x8192x32, .i32⟩) Host.shli
  :: TRef.nullary (.of main_call4_call0_c_41 : TRef sig ⟨S_, .i32⟩) (constantI S_ 32 6#32)
  :: TRef.unary (.of main_call4_call0_c_41 : TRef sig ⟨S_, .i32⟩) (.of main_call4_call0_v159 : TRef sig ⟨S16x8192x32, .i32⟩) (broadcastInDim S16x8192x32 ![] bcast_S_S16x8192x32)
  :: TRef.binary (.of main_call4_call0_v155 : TRef sig ⟨S16x8192x32, .i32⟩) (.of main_call4_call0_v159 : TRef sig ⟨S16x8192x32, .i32⟩) (.of main_call4_call0_v160 : TRef sig ⟨S16x8192x32, .i32⟩) Host.shrui
  :: TRef.binary (.of main_call4_call0_v158 : TRef sig ⟨S16x8192x32, .i32⟩) (.of main_call4_call0_v160 : TRef sig ⟨S16x8192x32, .i32⟩) (.of main_call4_call0_v161 : TRef sig ⟨S16x8192x32, .i32⟩) ori
  :: TRef.binary (.of main_call4_call0_v156 : TRef sig ⟨S16x8192x32, .i32⟩) (.of main_call4_call0_v161 : TRef sig ⟨S16x8192x32, .i32⟩) (.of main_call4_call0_v162 : TRef sig ⟨S16x8192x32, .i32⟩) xori
  :: TRef.binary (.of main_call4_call0_v156 : TRef sig ⟨S16x8192x32, .i32⟩) (.of main_call4_call0_v162 : TRef sig ⟨S16x8192x32, .i32⟩) (.of main_call4_call0_v163 : TRef sig ⟨S16x8192x32, .i32⟩) addi
  :: TRef.nullary (.of main_call4_call0_c_42 : TRef sig ⟨S_, .i32⟩) (constantI S_ 32 6#32)
  :: TRef.unary (.of main_call4_call0_c_42 : TRef sig ⟨S_, .i32⟩) (.of main_call4_call0_v164 : TRef sig ⟨S16x8192x32, .i32⟩) (broadcastInDim S16x8192x32 ![] bcast_S_S16x8192x32)
  :: TRef.binary (.of main_call4_call0_v162 : TRef sig ⟨S16x8192x32, .i32⟩) (.of main_call4_call0_v164 : TRef sig ⟨S16x8192x32, .i32⟩) (.of main_call4_call0_v165 : TRef sig ⟨S16x8192x32, .i32⟩) Host.shli
  :: TRef.nullary (.of main_call4_call0_c_43 : TRef sig ⟨S_, .i32⟩) (constantI S_ 32 26#32)
  :: TRef.unary (.of main_call4_call0_c_43 : TRef sig ⟨S_, .i32⟩) (.of main_call4_call0_v166 : TRef sig ⟨S16x8192x32, .i32⟩) (broadcastInDim S16x8192x32 ![] bcast_S_S16x8192x32)
  :: TRef.binary (.of main_call4_call0_v162 : TRef sig ⟨S16x8192x32, .i32⟩) (.of main_call4_call0_v166 : TRef sig ⟨S16x8192x32, .i32⟩) (.of main_call4_call0_v167 : TRef sig ⟨S16x8192x32, .i32⟩) Host.shrui
  :: TRef.binary (.of main_call4_call0_v165 : TRef sig ⟨S16x8192x32, .i32⟩) (.of main_call4_call0_v167 : TRef sig ⟨S16x8192x32, .i32⟩) (.of main_call4_call0_v168 : TRef sig ⟨S16x8192x32, .i32⟩) ori
  :: TRef.binary (.of main_call4_call0_v163 : TRef sig ⟨S16x8192x32, .i32⟩) (.of main_call4_call0_v168 : TRef sig ⟨S16x8192x32, .i32⟩) (.of main_call4_call0_v169 : TRef sig ⟨S16x8192x32, .i32⟩) xori
  :: TRef.unary (.of main_call4_call0_v1 : TRef sig ⟨S_, .i32⟩) (.of main_call4_call0_v170 : TRef sig ⟨S16x8192x32, .i32⟩) (broadcastInDim S16x8192x32 ![] bcast_S_S16x8192x32)
  :: TRef.binary (.of main_call4_call0_v163 : TRef sig ⟨S16x8192x32, .i32⟩) (.of main_call4_call0_v170 : TRef sig ⟨S16x8192x32, .i32⟩) (.of main_call4_v23_0 : TRef sig ⟨S16x8192x32, .i32⟩) addi
  :: TRef.unary (.of main_call4_v5 : TRef sig ⟨S_, .i32⟩) (.of main_call4_call0_v172 : TRef sig ⟨S16x8192x32, .i32⟩) (broadcastInDim S16x8192x32 ![] bcast_S_S16x8192x32)
  :: TRef.binary (.of main_call4_call0_v169 : TRef sig ⟨S16x8192x32, .i32⟩) (.of main_call4_call0_v172 : TRef sig ⟨S16x8192x32, .i32⟩) (.of main_call4_call0_v173 : TRef sig ⟨S16x8192x32, .i32⟩) addi
  :: TRef.nullary (.of main_call4_call0_c_44 : TRef sig ⟨S_, .i32⟩) (constantI S_ 32 5#32)
  :: TRef.unary (.of main_call4_call0_c_44 : TRef sig ⟨S_, .i32⟩) (.of main_call4_call0_v174 : TRef sig ⟨S16x8192x32, .i32⟩) (broadcastInDim S16x8192x32 ![] bcast_S_S16x8192x32)
  :: TRef.binary (.of main_call4_call0_v173 : TRef sig ⟨S16x8192x32, .i32⟩) (.of main_call4_call0_v174 : TRef sig ⟨S16x8192x32, .i32⟩) (.of main_call4_v23_1 : TRef sig ⟨S16x8192x32, .i32⟩) addi
  :: TRef.binary (.of main_call4_v23_0 : TRef sig ⟨S16x8192x32, .i32⟩) (.of main_call4_v23_1 : TRef sig ⟨S16x8192x32, .i32⟩) (.of main_call4_v24 : TRef sig ⟨S16x8192x32, .i32⟩) xori
  :: TRef.nullary (.of main_call4_c_3 : TRef sig ⟨S_, .i32⟩) (constantI S_ 32 9#32)
  :: TRef.unary (.of main_call4_c_3 : TRef sig ⟨S_, .i32⟩) (.of main_call4_v25 : TRef sig ⟨S16x8192x32, .i32⟩) (broadcastInDim S16x8192x32 ![] bcast_S_S16x8192x32)
  :: TRef.binary (.of main_call4_v24 : TRef sig ⟨S16x8192x32, .i32⟩) (.of main_call4_v25 : TRef sig ⟨S16x8192x32, .i32⟩) (.of main_call4_v26 : TRef sig ⟨S16x8192x32, .i32⟩) Host.shrui
  :: TRef.nullary (.of main_call4_c_4 : TRef sig ⟨S_, .i32⟩) (constantI S_ 32 1065353216#32)
  :: TRef.unary (.of main_call4_c_4 : TRef sig ⟨S_, .i32⟩) (.of main_call4_v27 : TRef sig ⟨S16x8192x32, .i32⟩) (broadcastInDim S16x8192x32 ![] bcast_S_S16x8192x32)
  :: TRef.binary (.of main_call4_v26 : TRef sig ⟨S16x8192x32, .i32⟩) (.of main_call4_v27 : TRef sig ⟨S16x8192x32, .i32⟩) (.of main_call4_v28 : TRef sig ⟨S16x8192x32, .i32⟩) ori
  :: TRef.unary (.of main_call4_v28 : TRef sig ⟨S16x8192x32, .i32⟩) (.of main_call4_v29 : TRef sig ⟨S16x8192x32, .f32⟩) (bitcastToFloat .f32)
  :: TRef.nullary (.of main_call4_cst : TRef sig ⟨S_, .f32⟩) (constant S_ .f32 0x3F800000#32)
  :: TRef.unary (.of main_call4_cst : TRef sig ⟨S_, .f32⟩) (.of main_call4_v30 : TRef sig ⟨S16x8192x32, .f32⟩) (broadcastInDim S16x8192x32 ![] bcast_S_S16x8192x32)
  :: TRef.binary (.of main_call4_v29 : TRef sig ⟨S16x8192x32, .f32⟩) (.of main_call4_v30 : TRef sig ⟨S16x8192x32, .f32⟩) (.of main_call4_v31 : TRef sig ⟨S16x8192x32, .f32⟩) subf
  :: TRef.binary (.of main_call4_v3 : TRef sig ⟨S1x1x1, .f32⟩) (.of main_call4_v2 : TRef sig ⟨S1x1x1, .f32⟩) (.of main_call4_v32 : TRef sig ⟨S1x1x1, .f32⟩) subf
  :: TRef.unary (.of main_call4_v32 : TRef sig ⟨S1x1x1, .f32⟩) (.of main_call4_v33 : TRef sig ⟨S16x8192x32, .f32⟩) (broadcastInDim S16x8192x32 ![0, 1, 2] bcast_S1x1x1_S16x8192x32_0_1_2)
  :: TRef.binary (.of main_call4_v31 : TRef sig ⟨S16x8192x32, .f32⟩) (.of main_call4_v33 : TRef sig ⟨S16x8192x32, .f32⟩) (.of main_call4_v34 : TRef sig ⟨S16x8192x32, .f32⟩) mulf
  :: TRef.unary (.of main_call4_v2 : TRef sig ⟨S1x1x1, .f32⟩) (.of main_call4_v35 : TRef sig ⟨S16x8192x32, .f32⟩) (broadcastInDim S16x8192x32 ![0, 1, 2] bcast_S1x1x1_S16x8192x32_0_1_2)
  :: TRef.binary (.of main_call4_v34 : TRef sig ⟨S16x8192x32, .f32⟩) (.of main_call4_v35 : TRef sig ⟨S16x8192x32, .f32⟩) (.of main_call4_v36 : TRef sig ⟨S16x8192x32, .f32⟩) addf
  :: TRef.unary (.of main_call4_v2 : TRef sig ⟨S1x1x1, .f32⟩) (.of main_call4_v37 : TRef sig ⟨S16x8192x32, .f32⟩) (broadcastInDim S16x8192x32 ![0, 1, 2] bcast_S1x1x1_S16x8192x32_0_1_2)
  :: TRef.binary (.of main_call4_v37 : TRef sig ⟨S16x8192x32, .f32⟩) (.of main_call4_v36 : TRef sig ⟨S16x8192x32, .f32⟩) (.of main_v39 : TRef sig ⟨S16x8192x32, .f32⟩) maximumf
  :: [] )
set_option maxHeartbeats 4000000 in  -- a long list
/-- Each touches TensorCore references only. -/
theorem opsUniform_sub : (opsUniform : List (HloOp τ sig (Elt F))).Forall fun op => op.bufs ⊆ tcRefs τ sig :=
  ⟨unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub ..⟩

/-- The Gumbel noise of the draw (`main_v44`): 8 operations. -/
abbrev opsNoise : List (HloOp τ sig (Elt F)) :=
  ( nullary main_cst_3 (constant S_ .f32 0x2EDBE6FF#32)
  :: TRef.unary (.of main_cst_3 : TRef sig ⟨S_, .f32⟩) (.of main_call5_v0 : TRef sig ⟨S_, .f32⟩) id
  :: TRef.unary (.of main_call5_v0 : TRef sig ⟨S_, .f32⟩) (.of main_call5_v1 : TRef sig ⟨S16x8192x32, .f32⟩) (broadcastInDim S16x8192x32 ![] bcast_S_S16x8192x32)
  :: TRef.binary (.of main_call5_v1 : TRef sig ⟨S16x8192x32, .f32⟩) (.of main_v39 : TRef sig ⟨S16x8192x32, .f32⟩) (.of main_v40 : TRef sig ⟨S16x8192x32, .f32⟩) maximumf
  :: unary main_v40 main_v41 (Host.log : (⟨S16x8192x32, .f32⟩ : BufTy).Contents (Elt F) → (⟨S16x8192x32, .f32⟩ : BufTy).Contents (Elt F))
  :: unary main_v41 main_v42 (Host.negf : (⟨S16x8192x32, .f32⟩ : BufTy).Contents (Elt F) → (⟨S16x8192x32, .f32⟩ : BufTy).Contents (Elt F))
  :: unary main_v42 main_v43 (Host.log : (⟨S16x8192x32, .f32⟩ : BufTy).Contents (Elt F) → (⟨S16x8192x32, .f32⟩ : BufTy).Contents (Elt F))
  :: unary main_v43 main_v44 (Host.negf : (⟨S16x8192x32, .f32⟩ : BufTy).Contents (Elt F) → (⟨S16x8192x32, .f32⟩ : BufTy).Contents (Elt F))
  :: [] )
/-- Each touches TensorCore references only. -/
theorem opsNoise_sub : (opsNoise : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., unary_bufs_sub ..⟩

/-- The straight-through Gumbel softmax (`main_v62`): 31 operations. -/
abbrev opsGate : List (HloOp τ sig (Elt F)) :=
  ( binary main_v31 main_v44 main_v45 (addf : (⟨S16x8192x32, .f32⟩ : BufTy).Contents (Elt F) → (⟨S16x8192x32, .f32⟩ : BufTy).Contents (Elt F) → (⟨S16x8192x32, .f32⟩ : BufTy).Contents (Elt F))
  :: nullary main_cst_4 (constant S_ .f32 0x3F800000#32)
  :: unary main_cst_4 main_v46 (broadcastInDim S16x8192x32 ![] bcast_S_S16x8192x32 : (⟨S_, .f32⟩ : BufTy).Contents (Elt F) → (⟨S16x8192x32, .f32⟩ : BufTy).Contents (Elt F))
  :: binary main_v45 main_v46 main_v47 (Host.divf : (⟨S16x8192x32, .f32⟩ : BufTy).Contents (Elt F) → (⟨S16x8192x32, .f32⟩ : BufTy).Contents (Elt F) → (⟨S16x8192x32, .f32⟩ : BufTy).Contents (Elt F))
  :: nullary main_cst_5 (constant S_ .f32 0xFF800000#32)
  :: binary main_v47 main_cst_5 main_v48 ((fun x v => Host.reduce FloatOps.maximumf x v reducesTo_S16x8192x32_S16x8192_d2 h_S_) : (⟨S16x8192x32, .f32⟩ : BufTy).Contents (Elt F) → (⟨S_, .f32⟩ : BufTy).Contents (Elt F) → (⟨S16x8192, .f32⟩ : BufTy).Contents (Elt F))
  :: nullary main_cst_6 (constant S_ .f32 0xFF800000#32)
  :: unary main_cst_6 main_v49 (broadcastInDim S16x8192 ![] bcast_S_S16x8192 : (⟨S_, .f32⟩ : BufTy).Contents (Elt F) → (⟨S16x8192, .f32⟩ : BufTy).Contents (Elt F))
  :: binary main_v49 main_v48 main_v50 (maximumf : (⟨S16x8192, .f32⟩ : BufTy).Contents (Elt F) → (⟨S16x8192, .f32⟩ : BufTy).Contents (Elt F) → (⟨S16x8192, .f32⟩ : BufTy).Contents (Elt F))
  :: unary main_v50 main_v51 (broadcastInDim S16x8192x1 ![0, 1] bcast_S16x8192_S16x8192x1_0_1 : (⟨S16x8192, .f32⟩ : BufTy).Contents (Elt F) → (⟨S16x8192x1, .f32⟩ : BufTy).Contents (Elt F))
  :: unary main_v51 main_v52 (broadcastInDim S16x8192x32 ![0, 1, 2] bcast_S16x8192x1_S16x8192x32_0_1_2 : (⟨S16x8192x1, .f32⟩ : BufTy).Contents (Elt F) → (⟨S16x8192x32, .f32⟩ : BufTy).Contents (Elt F))
  :: binary main_v47 main_v52 main_v53 (subf : (⟨S16x8192x32, .f32⟩ : BufTy).Contents (Elt F) → (⟨S16x8192x32, .f32⟩ : BufTy).Contents (Elt F) → (⟨S16x8192x32, .f32⟩ : BufTy).Contents (Elt F))
  :: unary main_v53 main_v54 (Host.exp : (⟨S16x8192x32, .f32⟩ : BufTy).Contents (Elt F) → (⟨S16x8192x32, .f32⟩ : BufTy).Contents (Elt F))
  :: nullary main_cst_7 (constant S_ .f32 0x00000000#32)
  :: binary main_v54 main_cst_7 main_v55 ((fun x v => Host.reduceAdd x v reducesTo_S16x8192x32_S16x8192_d2 h_S_) : (⟨S16x8192x32, .f32⟩ : BufTy).Contents (Elt F) → (⟨S_, .f32⟩ : BufTy).Contents (Elt F) → (⟨S16x8192, .f32⟩ : BufTy).Contents (Elt F))
  :: unary main_v55 main_v56 (broadcastInDim S16x8192x1 ![0, 1] bcast_S16x8192_S16x8192x1_0_1 : (⟨S16x8192, .f32⟩ : BufTy).Contents (Elt F) → (⟨S16x8192x1, .f32⟩ : BufTy).Contents (Elt F))
  :: unary main_v56 main_v57 (broadcastInDim S16x8192x32 ![0, 1, 2] bcast_S16x8192x1_S16x8192x32_0_1_2 : (⟨S16x8192x1, .f32⟩ : BufTy).Contents (Elt F) → (⟨S16x8192x32, .f32⟩ : BufTy).Contents (Elt F))
  :: binary main_v54 main_v57 main_v58 (Host.divf : (⟨S16x8192x32, .f32⟩ : BufTy).Contents (Elt F) → (⟨S16x8192x32, .f32⟩ : BufTy).Contents (Elt F) → (⟨S16x8192x32, .f32⟩ : BufTy).Contents (Elt F))
  :: TRef.nullary (.of main_call6_v0 : TRef sig ⟨S16x8192x32, .i32⟩) (iotaInDim S16x8192x32 32 2)
  :: TRef.nullary (.of main_call6_cst : TRef sig ⟨S_, .f32⟩) (constant S_ .f32 0xFF800000#32)
  :: TRef.nullary (.of main_call6_c : TRef sig ⟨S_, .i32⟩) (constantI S_ 32 0#32)
  :: TRef.quaternary (.of main_v58 : TRef sig ⟨S16x8192x32, .f32⟩) (.of main_call6_v0 : TRef sig ⟨S16x8192x32, .i32⟩) (.of main_call6_cst : TRef sig ⟨S_, .f32⟩) (.of main_call6_c : TRef sig ⟨S_, .i32⟩) (.of main_call6_v1_0 : TRef sig ⟨S16x8192, .f32⟩) (fun x y u v j => (Host.argReduce reducer_argmax_f32_i32 x y u v reducesTo_S16x8192x32_S16x8192_d2 h_S_ j).1)
  :: TRef.quaternary (.of main_v58 : TRef sig ⟨S16x8192x32, .f32⟩) (.of main_call6_v0 : TRef sig ⟨S16x8192x32, .i32⟩) (.of main_call6_cst : TRef sig ⟨S_, .f32⟩) (.of main_call6_c : TRef sig ⟨S_, .i32⟩) (.of main_v59 : TRef sig ⟨S16x8192, .i32⟩) (fun x y u v j => (Host.argReduce reducer_argmax_f32_i32 x y u v reducesTo_S16x8192x32_S16x8192_d2 h_S_ j).2)
  :: TRef.unary (.of main_v59 : TRef sig ⟨S16x8192, .i32⟩) (.of main_call7_v0 : TRef sig ⟨S16x8192x1, .i32⟩) (broadcastInDim S16x8192x1 ![0, 1] bcast_S16x8192_S16x8192x1_0_1)
  :: TRef.nullary (.of main_call7_v1 : TRef sig ⟨S1x1x32, .i32⟩) (iotaInDim S1x1x32 32 2)
  :: TRef.unary (.of main_call7_v0 : TRef sig ⟨S16x8192x1, .i32⟩) (.of main_call7_v2 : TRef sig ⟨S16x8192x32, .i32⟩) (broadcastInDim S16x8192x32 ![0, 1, 2] bcast_S16x8192x1_S16x8192x32_0_1_2)
  :: TRef.unary (.of main_call7_v1 : TRef sig ⟨S1x1x32, .i32⟩) (.of main_call7_v3 : TRef sig ⟨S16x8192x32, .i32⟩) (broadcastInDim S16x8192x32 ![0, 1, 2] bcast_S1x1x32_S16x8192x32_0_1_2)
  :: TRef.binary (.of main_call7_v2 : TRef sig ⟨S16x8192x32, .i32⟩) (.of main_call7_v3 : TRef sig ⟨S16x8192x32, .i32⟩) (.of main_call7_v4 : TRef sig ⟨S16x8192x32, .i1⟩) (cmpi .eq)
  :: TRef.unary (.of main_call7_v4 : TRef sig ⟨S16x8192x32, .i1⟩) (.of main_v60 : TRef sig ⟨S16x8192x32, .f32⟩) (uitofp .f32)
  :: binary main_v60 main_v58 main_v61 (subf : (⟨S16x8192x32, .f32⟩ : BufTy).Contents (Elt F) → (⟨S16x8192x32, .f32⟩ : BufTy).Contents (Elt F) → (⟨S16x8192x32, .f32⟩ : BufTy).Contents (Elt F))
  :: binary main_v61 main_v58 main_v62 (addf : (⟨S16x8192x32, .f32⟩ : BufTy).Contents (Elt F) → (⟨S16x8192x32, .f32⟩ : BufTy).Contents (Elt F) → (⟨S16x8192x32, .f32⟩ : BufTy).Contents (Elt F))
  :: [] )
/-- Each touches TensorCore references only. -/
theorem opsGate_sub : (opsGate : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., binary_bufs_sub ..⟩

/-- The gated, weighted sum (`main_v70`): 9 operations. -/
abbrev opsOut : List (HloOp τ sig (Elt F)) :=
  ( unary main_arg13 main_v63 (broadcastInDim S16x1x32 ![0, 2] bcast_S16x32_S16x1x32_0_2 : (⟨S16x32, .f32⟩ : BufTy).Contents (Elt F) → (⟨S16x1x32, .f32⟩ : BufTy).Contents (Elt F))
  :: unary main_v63 main_v64 (broadcastInDim S16x8192x32 ![0, 1, 2] bcast_S16x1x32_S16x8192x32_0_1_2 : (⟨S16x1x32, .f32⟩ : BufTy).Contents (Elt F) → (⟨S16x8192x32, .f32⟩ : BufTy).Contents (Elt F))
  :: binary main_v62 main_v64 main_v65 (mulf : (⟨S16x8192x32, .f32⟩ : BufTy).Contents (Elt F) → (⟨S16x8192x32, .f32⟩ : BufTy).Contents (Elt F) → (⟨S16x8192x32, .f32⟩ : BufTy).Contents (Elt F))
  :: unary main_v16 main_v66 (broadcastInDim S1x8192x32 ![1, 2] bcast_S8192x32_S1x8192x32_1_2 : (⟨S8192x32, .f32⟩ : BufTy).Contents (Elt F) → (⟨S1x8192x32, .f32⟩ : BufTy).Contents (Elt F))
  :: unary main_v66 main_v67 (broadcastInDim S16x8192x32 ![0, 1, 2] bcast_S1x8192x32_S16x8192x32_0_1_2 : (⟨S1x8192x32, .f32⟩ : BufTy).Contents (Elt F) → (⟨S16x8192x32, .f32⟩ : BufTy).Contents (Elt F))
  :: binary main_v65 main_v67 main_v68 (mulf : (⟨S16x8192x32, .f32⟩ : BufTy).Contents (Elt F) → (⟨S16x8192x32, .f32⟩ : BufTy).Contents (Elt F) → (⟨S16x8192x32, .f32⟩ : BufTy).Contents (Elt F))
  :: nullary main_cst_8 (constant S_ .f32 0x00000000#32)
  :: binary main_v68 main_cst_8 main_v69 ((fun x v => Host.reduceAdd x v reducesTo_S16x8192x32_S16x8192_d2 h_S_) : (⟨S16x8192x32, .f32⟩ : BufTy).Contents (Elt F) → (⟨S_, .f32⟩ : BufTy).Contents (Elt F) → (⟨S16x8192, .f32⟩ : BufTy).Contents (Elt F))
  :: unary main_v69 main_v70 ((transpose S8192x16 [1, 0] · transposes_S16x8192_S8192x16_1_0) : (⟨S16x8192, .f32⟩ : BufTy).Contents (Elt F) → (⟨S8192x16, .f32⟩ : BufTy).Contents (Elt F))
  :: [] )
/-- Each touches TensorCore references only. -/
theorem opsOut_sub : (opsOut : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., binary_bufs_sub .., unary_bufs_sub ..⟩

set_option maxHeartbeats 4000000 in
/-- @main is the chain of the six stretches. -/
theorem main_chain (c : Dev nD) : main (F := F) c = (Pipeline.chain
    [seq opsNets, seq opsKey, seq opsUniform, seq opsNoise, seq opsGate, seq opsOut] :
      Prog (TpuEff nD τ sig (Elt F) (Pipeline.Sig Λ₀ (Fin 0) fun p => (pcfgs (F := F) p).Adm) .tc) PUnit) := by
  rewrite [StableHlo.chain_seq_cons, StableHlo.chain_seq_cons, StableHlo.chain_seq_cons, StableHlo.chain_seq_cons,
    StableHlo.chain_seq_cons, StableHlo.chain_seq_cons]
  chain_rfl

/-- All the operations, in order. -/
def ops : List (HloOp τ sig (Elt F)) := opsNets ++ (opsKey ++ (opsUniform ++ (opsNoise ++ (opsGate ++ opsOut))))

theorem main_eq (c : Dev nD) : main (F := F) c = seq ops := by
  rw [main_chain]
  simp only [ops, seq_append, Pipeline.chain_cons, Pipeline.chain_nil, bind_assoc]
  simp only [bind_pure_unit]

theorem ops_sub : (ops : List (HloOp τ sig (Elt F))).Forall fun op => op.bufs ⊆ tcRefs τ sig := by
  simp only [ops, List.forall_append]
  exact ⟨opsNets_sub, opsKey_sub, opsUniform_sub, opsNoise_sub, opsGate_sub, opsOut_sub⟩

/-- Every operation determines its results. -/
theorem ops_fresh : ∀ op ∈ (ops : List (HloOp τ sig (Elt F))), op.fresh = ∅ := by
  intro op h
  simp only [ops, List.mem_append] at h
  rcases h with h | h | h | h | h | h <;>
  (repeat (cases h with | head => rfl | tail _ h => ?_)) <;> exact nomatch h

theorem scopedRefs_eq : (Finset.univ.filter fun b : Ref sig .tc => b.isScoped) = ∅ := by decide +kernel
theorem scopedSems_eq : (Finset.univ.filter fun sm : SemLoc sig => sm.isScoped .tc) = ∅ := by decide +kernel

/-- A run of the reference: it ends, and every buffer holds the operations' results folded over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.Proof.Ref
-- ==== Proof.RefVals.lean ====
/-
  What the reference's host operations leave in its two results, as one expression over the arguments and the uniform draw
  (`main_v39`): the library networks, the routers' logits, the noise, the gates and the derivative.
-/
module

public import proofs.«01_k».proof.Proof.RefOps

@[expose] public section

set_option maxRecDepth 65536

noncomputable section

namespace Cert.Proof.RefVals

open Cert.ReferenceIdeal Cert.ReferenceIdeal.Gen
open Idealize.ShloMosaic Idealize.ShloMosaic.TcCoe Idealize.ShloMosaic.StableHlo Idealize.SL.Sem

variable {F : FTy → Type} [FloatOps F]

/-- The library's first hidden layer. -/
def libH1 (X : FVec F S8192x16 .f32) (W1 : FVec F S32x16x256 .f32) (b1 : FVec F S32x256 .f32) : FVec F S32x8192x256 .f32 :=
  maximumf
    (addf (transpose S32x8192x256 [0, 2, 1] (Host.dotGeneral dot_S32x16x256_S8192x16_S32x256x8192_1_1_02_0_n_n none W1 X) transposes_S32x256x8192_S32x8192x256_0_2_1)
      (broadcastInDim S32x8192x256 ![0, 1, 2] bcast_S32x1x256_S32x8192x256_0_1_2 (broadcastInDim S32x1x256 ![0, 2] bcast_S32x256_S32x1x256_0_2 b1)))
    (broadcastInDim S32x8192x256 ![] bcast_S_S32x8192x256 (constant S_ .f32 0x00000000#32))

/-- The library's second hidden layer. -/
def libH2 (H : FVec F S32x8192x256 .f32) (W2 : FVec F S32x256x256 .f32) (b2 : FVec F S32x256 .f32) : FVec F S32x8192x256 .f32 :=
  maximumf
    (addf (Host.dotGeneral dot_S32x8192x256_S32x256x256_S32x8192x256_2_1_1_2_0_0 none H W2)
      (broadcastInDim S32x8192x256 ![0, 1, 2] bcast_S32x1x256_S32x8192x256_0_1_2 (broadcastInDim S32x1x256 ![0, 2] bcast_S32x256_S32x1x256_0_2 b2)))
    (broadcastInDim S32x8192x256 ![] bcast_S_S32x8192x256 (constant S_ .f32 0x00000000#32))

/-- The library's outputs, a row for each sample. -/
def libOut (H : FVec F S32x8192x256 .f32) (W3 : FVec F S32x256x1 .f32) (b3 : FVec F S32x1 .f32) : FVec F S8192x32 .f32 :=
  transpose S8192x32 [1, 0]
    (shapeCast S32x8192
      (addf (Host.dotGeneral dot_S32x8192x256_S32x256x1_S32x8192x1_2_1_1_2_0_0 none H W3)
        (broadcastInDim S32x8192x1 ![0, 1, 2] bcast_S32x1x1_S32x8192x1_0_1_2 (broadcastInDim S32x1x1 ![0, 2] bcast_S32x1_S32x1x1_0_2 b3)))
      shapeCasts_S32x8192x1_S32x8192)
    transposes_S32x8192_S8192x32_1_0

/-- The routers' first hidden layer. -/
def routH1 (X : FVec F S8192x16 .f32) (W1 : FVec F S16x16x256 .f32) (b1 : FVec F S16x256 .f32) : FVec F S16x8192x256 .f32 :=
  maximumf
    (addf (transpose S16x8192x256 [0, 2, 1] (Host.dotGeneral dot_S16x16x256_S8192x16_S16x256x8192_1_1_02_0_n_n none W1 X) transposes_S16x256x8192_S16x8192x256_0_2_1)
      (broadcastInDim S16x8192x256 ![0, 1, 2] bcast_S16x1x256_S16x8192x256_0_1_2 (broadcastInDim S16x1x256 ![0, 2] bcast_S16x256_S16x1x256_0_2 b1)))
    (broadcastInDim S16x8192x256 ![] bcast_S_S16x8192x256 (constant S_ .f32 0x00000000#32))

/-- The routers' second hidden layer. -/
def routH2 (H : FVec F S16x8192x256 .f32) (W2 : FVec F S16x256x256 .f32) (b2 : FVec F S16x256 .f32) : FVec F S16x8192x256 .f32 :=
  maximumf
    (addf (Host.dotGeneral dot_S16x8192x256_S16x256x256_S16x8192x256_2_1_1_2_0_0 none H W2)
      (broadcastInDim S16x8192x256 ![0, 1, 2] bcast_S16x1x256_S16x8192x256_0_1_2 (broadcastInDim S16x1x256 ![0, 2] bcast_S16x256_S16x1x256_0_2 b2)))
    (broadcastInDim S16x8192x256 ![] bcast_S_S16x8192x256 (constant S_ .f32 0x00000000#32))

/-- The routers' logits. -/
def routOut (H : FVec F S16x8192x256 .f32) (W3 : FVec F S16x256x32 .f32) (b3 : FVec F S16x32 .f32) : FVec F S16x8192x32 .f32 :=
  addf (Host.dotGeneral dot_S16x8192x256_S16x256x32_S16x8192x32_2_1_1_2_0_0 none H W3)
    (broadcastInDim S16x8192x32 ![0, 1, 2] bcast_S16x1x32_S16x8192x32_0_1_2 (broadcastInDim S16x1x32 ![0, 2] bcast_S16x32_S16x1x32_0_2 b3))

/-- The noise of a uniform draw: clipped from below, the logarithm negated, twice. -/
def noise (u : FVec F S16x8192x32 .f32) : FVec F S16x8192x32 .f32 :=
  Host.negf (Host.log (Host.negf (Host.log (maximumf (broadcastInDim S16x8192x32 ![] bcast_S_S16x8192x32 (constant S_ .f32 0x2EDBE6FF#32)) u))))

/-- A row's maxima, spread over the rows. -/
def rowMax (z : FVec F S16x8192x32 .f32) : FVec F S16x8192x32 .f32 :=
  broadcastInDim S16x8192x32 ![0, 1, 2] bcast_S16x8192x1_S16x8192x32_0_1_2
    (broadcastInDim S16x8192x1 ![0, 1] bcast_S16x8192_S16x8192x1_0_1
      (maximumf (broadcastInDim S16x8192 ![] bcast_S_S16x8192 (constant S_ .f32 0xFF800000#32))
        (Host.reduce FloatOps.maximumf z (constant S_ .f32 0xFF800000#32) reducesTo_S16x8192x32_S16x8192_d2 h_S_)))

/-- A row's sums, spread over the rows. -/
def rowSum (z : FVec F S16x8192x32 .f32) : FVec F S16x8192x32 .f32 :=
  broadcastInDim S16x8192x32 ![0, 1, 2] bcast_S16x8192x1_S16x8192x32_0_1_2
    (broadcastInDim S16x8192x1 ![0, 1] bcast_S16x8192_S16x8192x1_0_1
      (Host.reduceAdd z (constant S_ .f32 0x00000000#32) reducesTo_S16x8192x32_S16x8192_d2 h_S_))

/-- The logits plus the noise, over the temperature one. -/
def noisy (l g : FVec F S16x8192x32 .f32) : FVec F S16x8192x32 .f32 :=
  Host.divf (addf l g) (broadcastInDim S16x8192x32 ![] bcast_S_S16x8192x32 (constant S_ .f32 0x3F800000#32))

/-- A row's exponentials of the distances to its maximum. -/
def expo (z : FVec F S16x8192x32 .f32) : FVec F S16x8192x32 .f32 := Host.exp (subf z (rowMax z))

/-- The softmax of the rows. -/
def soft (z : FVec F S16x8192x32 .f32) : FVec F S16x8192x32 .f32 := Host.divf (expo z) (rowSum (expo z))

/-- The index of a row's first maximum. -/
def amax (y : FVec F S16x8192x32 .f32) : IVec S16x8192 32 := fun j =>
  (Host.argReduce reducer_argmax_f32_i32 y (iotaInDim S16x8192x32 32 2) (constant S_ .f32 0xFF800000#32) (constantI S_ 32 0#32)
    reducesTo_S16x8192x32_S16x8192_d2 h_S_ j).2

/-- One at the index, zero elsewhere. -/
def onehot (a : IVec S16x8192 32) : FVec F S16x8192x32 .f32 :=
  uitofp .f32 (cmpi .eq
    (broadcastInDim S16x8192x32 ![0, 1, 2] bcast_S16x8192x1_S16x8192x32_0_1_2 (broadcastInDim S16x8192x1 ![0, 1] bcast_S16x8192_S16x8192x1_0_1 a))
    (broadcastInDim S16x8192x32 ![0, 1, 2] bcast_S1x1x32_S16x8192x32_0_1_2 (iotaInDim S1x1x32 32 2)))

/-- The straight-through gates of a softmax. -/
def gatesR (y : FVec F S16x8192x32 .f32) : FVec F S16x8192x32 .f32 := addf (subf (onehot (amax y)) y) y

/-- The derivative: gates, coefficients and library outputs multiplied, summed over the library. -/
def outR (g : FVec F S16x8192x32 .f32) (C : FVec F S16x32 .f32) (M : FVec F S8192x32 .f32) : FVec F S8192x16 .f32 :=
  transpose S8192x16 [1, 0]
    (Host.reduceAdd
      (mulf
        (mulf g (broadcastInDim S16x8192x32 ![0, 1, 2] bcast_S16x1x32_S16x8192x32_0_1_2 (broadcastInDim S16x1x32 ![0, 2] bcast_S16x32_S16x1x32_0_2 C)))
        (broadcastInDim S16x8192x32 ![0, 1, 2] bcast_S1x8192x32_S16x8192x32_0_1_2 (broadcastInDim S1x8192x32 ![1, 2] bcast_S8192x32_S1x8192x32_1_2 M)))
      (constant S_ .f32 0x00000000#32) reducesTo_S16x8192x32_S16x8192_d2 h_S_)
    transposes_S16x8192_S8192x16_1_0

theorem nets_v16 (V : Valuation τ sig (Elt F)) :
    after Ref.opsNets V (main_v16 : DevRef τ sig)
      = libOut (libH2 (libH1 (V (main_arg0 : DevRef τ sig)) (V (main_arg1 : DevRef τ sig)) (V (main_arg2 : DevRef τ sig)))
          (V (main_arg3 : DevRef τ sig)) (V (main_arg4 : DevRef τ sig))) (V (main_arg5 : DevRef τ sig)) (V (main_arg6 : DevRef τ sig)) := by
  chain_rfl

theorem nets_v31 (V : Valuation τ sig (Elt F)) :
    after Ref.opsNets V (main_v31 : DevRef τ sig)
      = routOut (routH2 (routH1 (V (main_arg0 : DevRef τ sig)) (V (main_arg7 : DevRef τ sig)) (V (main_arg8 : DevRef τ sig)))
          (V (main_arg9 : DevRef τ sig)) (V (main_arg10 : DevRef τ sig))) (V (main_arg11 : DevRef τ sig)) (V (main_arg12 : DevRef τ sig)) := by
  chain_rfl

theorem noise_v44 (V : Valuation τ sig (Elt F)) :
    after Ref.opsNoise V (main_v44 : DevRef τ sig) = noise (V (main_v39 : DevRef τ sig)) := by
  chain_rfl

theorem out_v70 (V : Valuation τ sig (Elt F)) :
    after Ref.opsOut V (main_v70 : DevRef τ sig)
      = outR (V (main_v62 : DevRef τ sig)) (V (main_arg13 : DevRef τ sig)) (V (main_v16 : DevRef τ sig)) := by
  chain_rfl

end Cert.Proof.RefVals
-- ==== Proof.RefGate.lean ====
/-
  What the gates' operations leave (`main_v62`), composed from six steps of them: the division by the temperature, a row's
  maximum, the exponentials, the softmax, the index of the maximum, the straight-through gates.
-/
module

public import proofs.«01_k».proof.Proof.RefVals
public import Idealize.ShloMosaic.Lib.StableHlo.RunRead
public import Idealize.ShloMosaic.Lib.StableHlo.ReadAt

@[expose] public section

set_option maxRecDepth 65536

noncomputable section

namespace Cert.Proof.RefGate

open Cert.Proof.RefVals Cert.ReferenceIdeal Cert.ReferenceIdeal.Gen
open Idealize.ShloMosaic Idealize.ShloMosaic.TcCoe Idealize.ShloMosaic.StableHlo Idealize.SL.Sem

variable {F : FTy → Type} [FloatOps F]

/-- The gates' operations, in the six steps of the softmax, the index and the gates. -/
abbrev p1 : List (HloOp τ sig (Elt F)) := Ref.opsGate.take 4
abbrev p2 : List (HloOp τ sig (Elt F)) := (Ref.opsGate.drop 4).take 7
abbrev p3 : List (HloOp τ sig (Elt F)) := (Ref.opsGate.drop 11).take 2
abbrev p4 : List (HloOp τ sig (Elt F)) := (Ref.opsGate.drop 13).take 5
abbrev p5 : List (HloOp τ sig (Elt F)) := (Ref.opsGate.drop 18).take 5
abbrev p6 : List (HloOp τ sig (Elt F)) := Ref.opsGate.drop 23

theorem p1_v47 (V : Valuation τ sig (Elt F)) :
    after p1 V (main_v47 : DevRef τ sig) = noisy (V (main_v31 : DevRef τ sig)) (V (main_v44 : DevRef τ sig)) := by
  chain_rfl

theorem p2_v52 (V : Valuation τ sig (Elt F)) : after p2 V (main_v52 : DevRef τ sig) = rowMax (V (main_v47 : DevRef τ sig)) := by
  after_reads_simp
  rfl

theorem p2_v47 (V : Valuation τ sig (Elt F)) : after p2 V (main_v47 : DevRef τ sig) = V (main_v47 : DevRef τ sig) := by
  chain_rfl

theorem p3_v54 (V : Valuation τ sig (Elt F)) :
    after p3 V (main_v54 : DevRef τ sig) = Host.exp (subf (V (main_v47 : DevRef τ sig) : FVec F S16x8192x32 .f32) (V (main_v52 : DevRef τ sig))) := by
  chain_rfl

theorem p4_v58 (V : Valuation τ sig (Elt F)) :
    after p4 V (main_v58 : DevRef τ sig) = Host.divf (V (main_v54 : DevRef τ sig)) (rowSum (V (main_v54 : DevRef τ sig))) := by
  chain_rfl

theorem p5_v59 (V : Valuation τ sig (Elt F)) : after p5 V (main_v59 : DevRef τ sig) = amax (V (main_v58 : DevRef τ sig)) := by
  after_reads_simp
  simp -implicitDefEqProofs only [StableHlo.TRef.toBuf, StableHlo.TRef.ofBuf, cast_cast, cast_eq]
  rfl

theorem p5_v58 (V : Valuation τ sig (Elt F)) : after p5 V (main_v58 : DevRef τ sig) = V (main_v58 : DevRef τ sig) := by
  chain_rfl

theorem p6_v62 (V : Valuation τ sig (Elt F)) :
    after p6 V (main_v62 : DevRef τ sig)
      = addf (subf (onehot (V (main_v59 : DevRef τ sig))) (V (main_v58 : DevRef τ sig))) (V (main_v58 : DevRef τ sig)) := by
  chain_rfl

theorem gate_v62 (V : Valuation τ sig (Elt F)) :
    after Ref.opsGate V (main_v62 : DevRef τ sig) = gatesR (soft (noisy (V (main_v31 : DevRef τ sig)) (V (main_v44 : DevRef τ sig)))) := by
  have h : (Ref.opsGate : List (HloOp τ sig (Elt F))) = p1 ++ (p2 ++ (p3 ++ (p4 ++ (p5 ++ p6)))) := rfl
  rw [h, after_append, after_append, after_append, after_append, after_append, p6_v62, p5_v59, p5_v58, p4_v58, p3_v54, p2_v52, p2_v47, p1_v47]
  rfl

end Cert.Proof.RefGate
-- ==== Proof.RefRes.lean ====
/-
  The reference's two results after the whole line of host operations, over the arguments and the uniform draw; the
  arguments are kept; the draw is the kernel's draw.
-/
module

public import proofs.«01_k».proof.Proof.RefGate
public import proofs.«01_k».proof.Proof.Gen.KernelIdeal.Launch

@[expose] public section

set_option maxRecDepth 65536

noncomputable section

namespace Cert.Proof.RefRes

open Cert.Proof.RefVals Cert.Proof.RefGate Cert.ReferenceIdeal Cert.ReferenceIdeal.Gen
open Idealize.ShloMosaic Idealize.ShloMosaic.TcCoe Idealize.ShloMosaic.StableHlo Idealize.SL.Sem

variable {F : FTy → Type} [FloatOps F]

/-- The uniform draw. -/
def draw (V : Valuation τ sig (Elt F)) : FVec F S16x8192x32 .f32 := after (Ref.opsKey ++ Ref.opsUniform) V (main_v39 : DevRef τ sig)

/-- The reference's routers' logits over the launch contents. -/
def logitsR (V : Valuation τ sig (Elt F)) : FVec F S16x8192x32 .f32 :=
  routOut (routH2 (routH1 (V (main_arg0 : DevRef τ sig)) (V (main_arg7 : DevRef τ sig)) (V (main_arg8 : DevRef τ sig)))
    (V (main_arg9 : DevRef τ sig)) (V (main_arg10 : DevRef τ sig))) (V (main_arg11 : DevRef τ sig)) (V (main_arg12 : DevRef τ sig))

/-- The reference's library outputs over the launch contents. -/
def mlpsR (V : Valuation τ sig (Elt F)) : FVec F S8192x32 .f32 :=
  libOut (libH2 (libH1 (V (main_arg0 : DevRef τ sig)) (V (main_arg1 : DevRef τ sig)) (V (main_arg2 : DevRef τ sig)))
    (V (main_arg3 : DevRef τ sig)) (V (main_arg4 : DevRef τ sig))) (V (main_arg5 : DevRef τ sig)) (V (main_arg6 : DevRef τ sig))

/-- The reference's gates over the launch contents. -/
def gatesV (V : Valuation τ sig (Elt F)) : FVec F S16x8192x32 .f32 := gatesR (soft (noisy (logitsR V) (noise (draw V))))

theorem kept (V : Valuation τ sig (Elt F)) :
    after Ref.ops V (main_arg0 : DevRef τ sig) = V (main_arg0 : DevRef τ sig) ∧
    after Ref.ops V (main_arg1 : DevRef τ sig) = V (main_arg1 : DevRef τ sig) ∧
    after Ref.ops V (main_arg2 : DevRef τ sig) = V (main_arg2 : DevRef τ sig) ∧
    after Ref.ops V (main_arg3 : DevRef τ sig) = V (main_arg3 : DevRef τ sig) ∧
    after Ref.ops V (main_arg4 : DevRef τ sig) = V (main_arg4 : DevRef τ sig) ∧
    after Ref.ops V (main_arg5 : DevRef τ sig) = V (main_arg5 : DevRef τ sig) ∧
    after Ref.ops V (main_arg6 : DevRef τ sig) = V (main_arg6 : DevRef τ sig) ∧
    after Ref.ops V (main_arg7 : DevRef τ sig) = V (main_arg7 : DevRef τ sig) ∧
    after Ref.ops V (main_arg8 : DevRef τ sig) = V (main_arg8 : DevRef τ sig) ∧
    after Ref.ops V (main_arg9 : DevRef τ sig) = V (main_arg9 : DevRef τ sig) ∧
    after Ref.ops V (main_arg10 : DevRef τ sig) = V (main_arg10 : DevRef τ sig) ∧
    after Ref.ops V (main_arg11 : DevRef τ sig) = V (main_arg11 : DevRef τ sig) ∧
    after Ref.ops V (main_arg12 : DevRef τ sig) = V (main_arg12 : DevRef τ sig) ∧
    after Ref.ops V (main_arg13 : DevRef τ sig) = V (main_arg13 : DevRef τ sig) := by
  refine ⟨?_, ?_, ?_, ?_, ?_, ?_, ?_, ?_, ?_, ?_, ?_, ?_, ?_, ?_⟩ <;> chain_rfl

/-- The kernel's host code makes the same draw, whatever the launch contents. -/
theorem draw_eq (V : Valuation τ sig (Elt F)) (V' : Valuation Cert.KernelIdeal.τ Cert.KernelIdeal.sig (Elt F)) :
    after (Ref.opsKey ++ Ref.opsUniform) V (main_v39 : DevRef τ sig)
      = after (Cert.KernelIdeal.Gen.hostOps0 ++ Cert.KernelIdeal.Gen.hostOps0_1) V' (Cert.KernelIdeal.main_v7 : DevRef Cert.KernelIdeal.τ Cert.KernelIdeal.sig) := by
  chain_rfl

theorem kept_draw (V : Valuation τ sig (Elt F)) :
    after (Ref.opsKey ++ Ref.opsUniform) V (main_v16 : DevRef τ sig) = V (main_v16 : DevRef τ sig) ∧
    after (Ref.opsKey ++ Ref.opsUniform) V (main_v31 : DevRef τ sig) = V (main_v31 : DevRef τ sig) ∧
    after (Ref.opsKey ++ Ref.opsUniform) V (main_arg13 : DevRef τ sig) = V (main_arg13 : DevRef τ sig) := by
  refine ⟨?_, ?_, ?_⟩ <;> chain_rfl

theorem kept_nets (V : Valuation τ sig (Elt F)) : after Ref.opsNets V (main_arg13 : DevRef τ sig) = V (main_arg13 : DevRef τ sig) := by
  chain_rfl

theorem kept_noise (V : Valuation τ sig (Elt F)) :
    after Ref.opsNoise V (main_v16 : DevRef τ sig) = V (main_v16 : DevRef τ sig) ∧
    after Ref.opsNoise V (main_v31 : DevRef τ sig) = V (main_v31 : DevRef τ sig) ∧
    after Ref.opsNoise V (main_arg13 : DevRef τ sig) = V (main_arg13 : DevRef τ sig) := by
  refine ⟨?_, ?_, ?_⟩ <;> chain_rfl

theorem kept_gate (V : Valuation τ sig (Elt F)) :
    after Ref.opsGate V (main_v16 : DevRef τ sig) = V (main_v16 : DevRef τ sig) ∧
    after Ref.opsGate V (main_arg13 : DevRef τ sig) = V (main_arg13 : DevRef τ sig) := by
  refine ⟨?_, ?_⟩ <;> chain_rfl

theorem kept_out (V : Valuation τ sig (Elt F)) : after Ref.opsOut V (main_v62 : DevRef τ sig) = V (main_v62 : DevRef τ sig) := by
  chain_rfl

theorem ops_split (V : Valuation τ sig (Elt F)) :
    after Ref.ops V = after Ref.opsOut (after Ref.opsGate (after Ref.opsNoise (after (Ref.opsKey ++ Ref.opsUniform) (after Ref.opsNets V)))) := by
  rw [Ref.ops, after_append, after_append, after_append, after_append, after_append, after_append]

theorem v39 (V : Valuation τ sig (Elt F)) (V' : Valuation Cert.KernelIdeal.τ Cert.KernelIdeal.sig (Elt F)) :
    after (Ref.opsKey ++ Ref.opsUniform) (after Ref.opsNets V) (main_v39 : DevRef τ sig) = draw V :=
  (draw_eq _ V').trans (draw_eq V V').symm

/-- The gates the reference leaves. -/
theorem v62 (V : Valuation τ sig (Elt F)) (V' : Valuation Cert.KernelIdeal.τ Cert.KernelIdeal.sig (Elt F)) : after Ref.ops V (main_v62 : DevRef τ sig) = gatesV V := by
  rw [ops_split, kept_out, gate_v62, (kept_noise _).2.1, noise_v44, (kept_draw _).2.1, nets_v31, v39 _ V']
  rfl

/-- The derivative the reference leaves. -/
theorem v70 (V : Valuation τ sig (Elt F)) (V' : Valuation Cert.KernelIdeal.τ Cert.KernelIdeal.sig (Elt F)) : after Ref.ops V (main_v70 : DevRef τ sig) = outR (gatesV V) (V (main_arg13 : DevRef τ sig)) (mlpsR V) := by
  rw [ops_split, out_v70, (kept_gate _).1, (kept_gate _).2, (kept_noise _).1, (kept_noise _).2.2, (kept_draw _).1, (kept_draw _).2.2, nets_v16,
    kept_nets, gate_v62, (kept_noise _).2.1, noise_v44, (kept_draw _).2.1, nets_v31, v39 _ V']
  rfl

/-- The kernel's host code makes its noise of the draw as the reference does. -/
theorem noise_v12 (V' : Valuation Cert.KernelIdeal.τ Cert.KernelIdeal.sig (Elt F)) :
    after (Cert.KernelIdeal.Gen.hostOps0_2 ++ (Cert.KernelIdeal.Gen.hostOps0_3 ++ Cert.KernelIdeal.Gen.hostOps0_4)) V'
        (Cert.KernelIdeal.main_v12 : DevRef Cert.KernelIdeal.τ Cert.KernelIdeal.sig)
      = noise (V' (Cert.KernelIdeal.main_v7 : DevRef Cert.KernelIdeal.τ Cert.KernelIdeal.sig)) := by
  chain_rfl

/-- The two programs add the same noise. -/
theorem noise_eq (V : Valuation τ sig (Elt F)) (V' : Valuation Cert.KernelIdeal.τ Cert.KernelIdeal.sig (Elt F)) :
    after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4])
        V' (Cert.KernelIdeal.main_v12 : DevRef Cert.KernelIdeal.τ Cert.KernelIdeal.sig) = noise (draw V) := by
  have h : List.flatten [Cert.KernelIdeal.Gen.hostOps0 (F := F), Cert.KernelIdeal.Gen.hostOps0_1, Cert.KernelIdeal.Gen.hostOps0_2, Cert.KernelIdeal.Gen.hostOps0_3, Cert.KernelIdeal.Gen.hostOps0_4]
      = (Cert.KernelIdeal.Gen.hostOps0 ++ Cert.KernelIdeal.Gen.hostOps0_1) ++ (Cert.KernelIdeal.Gen.hostOps0_2 ++ (Cert.KernelIdeal.Gen.hostOps0_3 ++ Cert.KernelIdeal.Gen.hostOps0_4)) := by
    simp only [List.flatten_cons, List.flatten_nil, List.append_nil, List.append_assoc]
  rw [h, after_append, noise_v12, draw, draw_eq V V']

end Cert.Proof.RefRes
-- ==== Proof.RefRun.lean ====
/-
  The reference's runs: its arguments are kept, no semaphore counts, and its two results are the closed forms.
-/
module

public import proofs.«01_k».proof.Proof.RefRes
public import Idealize.ShloMosaic.Lib.Quiescent
public import Idealize.ShloMosaic.Lib.IdealHost

@[expose] public section

set_option maxRecDepth 16384

noncomputable section

namespace Cert.Proof.RefRun

open Cert.Proof.RefVals Cert.Proof.RefRes Cert.ReferenceIdeal Cert.ReferenceIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- The arguments of a device hold what they held. -/
def Kept (s : MemSt nD τ sig (Elt Ideal)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)
  ∧ s.mem ((c.tc : Thread nD τ).loc main_arg12) = m ((c.tc : Thread nD τ).loc main_arg12)
  ∧ s.mem ((c.tc : Thread nD τ).loc main_arg13) = m ((c.tc : Thread nD τ).loc main_arg13)

theorem kept_of {s : MemSt nD τ sig (Elt Ideal)}
    (h : ∀ (d : Dev nD) (b : Ref sig .tc), s.mem ((d.tc : Thread nD τ).loc b) = after Ref.ops (launchContents m d) (Proc.devRef .tc b)) (c : Dev nD) :
    Kept m s c := by
  obtain ⟨h0, h1, h2, h3, h4, h5, h6, h7, h8, h9, h10, h11, h12, h13⟩ := kept (launchContents m c)
  exact ⟨(h c _).trans h0, (h c _).trans h1, (h c _).trans h2, (h c _).trans h3, (h c _).trans h4, (h c _).trans h5, (h c _).trans h6,
    (h c _).trans h7, (h c _).trans h8, (h c _).trans h9, (h c _).trans h10, (h c _).trans h11, (h c _).trans h12, (h c _).trans h13⟩

/-- The reference runs, keeps its arguments and leaves no semaphore counting. -/
theorem frame : θ_run defs (onTc (τ := τ) (main (F := Ideal))) ⟨m, fun _ => 0, ρ⟩ fun r =>
    (∀ c : Dev nD, Kept m r.2 c) ∧ r.2.sem = fun _ => 0 :=
  (θ_run defs _ _).mono (fun r h => ⟨kept_of m h, sem_eq_zero_of_no_sems (by decide) r.2⟩) (Ref.run m ρ)

/-- The reference runs, leaves its results and keeps its arguments. -/
theorem results (V' : Valuation Cert.KernelIdeal.τ Cert.KernelIdeal.sig (Elt Ideal)) :
    θ_run defs (onTc (τ := τ) (main (F := Ideal))) ⟨m, fun _ => 0, ρ⟩ fun r => ∀ c : Dev nD,
      r.2.mem ((c.tc : Thread nD τ).loc main_v70)
          = outR (gatesV (launchContents m c)) (launchContents m c (main_arg13 : DevRef τ sig)) (mlpsR (launchContents m c))
      ∧ r.2.mem ((c.tc : Thread nD τ).loc main_v62) = gatesV (launchContents m c)
      ∧ Kept m r.2 c :=
  (θ_run defs _ _).mono (fun _ h c => ⟨(h c _).trans (v70 _ V'), (h c _).trans (v62 _ V'), kept_of m h c⟩) (Ref.run m ρ)

end Cert.Proof.RefRun
-- ==== Proof.Argmax.lean ====
/-
  The reference's index of a row's maximum: the fold over the row's pairs of a value and its index leaves the place of the
  first maximum, in whatever order the fold meets the pairs.
-/
module

public import proofs.«01_k».proof.Proof.RefVals
public import proofs.«01_k».proof.Proof.Net
public import Idealize.ShloMosaic.Lib.Pointwise

@[expose] public section

set_option maxRecDepth 16384

noncomputable section

namespace Cert.Proof.Argmax

open Cert.Proof.RefVals Cert.Proof.Net Cert.ReferenceIdeal Cert.ReferenceIdeal.Gen
open Idealize.ShloMosaic Idealize.ShloMosaic.TcCoe Idealize.SL.Sem

/-- The fold's step on extended reals. -/
theorem step_eq (a b : Ideal .f32 × BitVec 32) :
    reducer_argmax_f32_i32 (F := Ideal) a b
      = (if (b.1 : EReal) < a.1 then a.1 else b.1, if (b.1 : EReal) < a.1 ∨ ((a.1 : EReal) = b.1 ∧ a.2.slt b.2) then a.2 else b.2) := by
  unfold reducer_argmax_f32_i32
  simp only [Ideal.cmpf_def, Ideal.cmp, IntOp.cmpi, IntOp.ori, IntOp.andi, Scalar.select]
  by_cases h1 : (b.1 : EReal) < a.1 <;> by_cases h2 : (a.1 : EReal) = b.1 <;> by_cases h3 : a.2.slt b.2 <;> simp [h1, h2, h3]

/-- A value and its index. -/
def pair (y : Fin 32 → EReal) (k : Fin 32) : Ideal .f32 × BitVec 32 := (y k, BitVec.ofNat 32 k)

theorem slt_ofNat (i j : Fin 32) : (BitVec.ofNat 32 i).slt (BitVec.ofNat 32 j) = decide (i < j) := by
  rw [BitVec.slt_eq_decide, toInt_ofNat (by omega), toInt_ofNat (by omega)]
  simp

/-- From the start the step takes the pair. -/
theorem step_start {y : Fin 32 → EReal} (hy : ∀ k, ⊥ < y k) (k : Fin 32) :
    reducer_argmax_f32_i32 (F := Ideal) ((⊥ : EReal), 0#32) (pair y k) = pair y k := by
  rw [step_eq]
  simp only [pair, not_lt_bot, if_false, false_or]
  rw [if_neg fun h => (hy k).ne h.1]

/-- Of two pairs the step takes one. -/
theorem step_pair (y : Fin 32 → EReal) (i j : Fin 32) :
    ∃ k, reducer_argmax_f32_i32 (F := Ideal) (pair y i) (pair y j) = pair y k := by
  rw [step_eq]
  simp only [pair, slt_ofNat, decide_eq_true_eq]
  by_cases h1 : y j < y i
  · exact ⟨i, by simp [h1]⟩
  · by_cases h2 : y i = y j ∧ i < j
    · exact ⟨i, by simp [h1, h2]⟩
    · exact ⟨j, by simp only [h1, h2, or_self, if_false]⟩

/-- The first maximum stays. -/
theorem step_keep {y : Fin 32 → EReal} {d : Fin 32} (h : First y d) (k : Fin 32) :
    reducer_argmax_f32_i32 (F := Ideal) (pair y d) (pair y k) = pair y d := by
  rw [step_eq]
  simp only [pair, slt_ofNat, decide_eq_true_eq]
  rcases (h.1 k).lt_or_eq with h1 | h1
  · simp [h1]
  · rcases lt_trichotomy k d with h2 | rfl | h2
    · exact absurd h1 (h.2 k h2).ne
    · simp
    · simp [h1, h2]

/-- The first maximum is taken. -/
theorem step_take {y : Fin 32 → EReal} {d : Fin 32} (h : First y d) (k : Fin 32) :
    reducer_argmax_f32_i32 (F := Ideal) (pair y k) (pair y d) = pair y d := by
  rw [step_eq]
  simp only [pair, slt_ofNat, decide_eq_true_eq]
  have h1 : ¬ y d < y k := not_lt.2 (h.1 k)
  have h2 : ¬ (y k = y d ∧ k < d) := fun e => (h.2 k e.2).ne e.1
  simp only [h1, h2, or_self, if_false]

/-- The fold over pairs among which the first maximum is. -/
theorem foldl_pairs {y : Fin 32 → EReal} (hy : ∀ k, ⊥ < y k) {d : Fin 32} (h : First y d) (l : List (Ideal .f32 × BitVec 32)) :
    ∀ a, (a = ((⊥ : EReal), 0#32) ∨ ∃ k, a = pair y k) → (∀ p ∈ l, ∃ k, p = pair y k) → (a = pair y d ∨ pair y d ∈ l) →
      l.foldl (reducer_argmax_f32_i32 (F := Ideal)) a = pair y d := by
  induction l with
  | nil => exact fun a _ _ hd => hd.resolve_right List.not_mem_nil
  | cons p l ih =>
    intro a ha hl hd
    obtain ⟨k, rfl⟩ := hl p List.mem_cons_self
    refine ih _ (.inr ?_) (fun q hq => hl q (List.mem_cons_of_mem _ hq)) ?_
    · rcases ha with rfl | ⟨i, rfl⟩
      · exact ⟨k, step_start hy k⟩
      · exact step_pair y i k
    · rcases hd with rfl | hd
      · exact .inl (step_keep h k)
      · rcases List.mem_cons.mp hd with e | hd
        · rw [← e]
          rcases ha with rfl | ⟨i, rfl⟩
          · exact .inl (step_start hy d)
          · exact .inl (step_take h i)
        · exact .inr hd

/-- The pairs a result position's fold meets. -/
theorem mem_fiber {α β : Type} {s t : Shape} {axes : List (Fin s.rank)} (x : s.Idx → α) (y : s.Idx → β) (h : s.ReducesTo axes t) (j : t.Idx) (p : α × β) :
    p ∈ Host.argReduceFiber x y h j ↔ ∃ i, h.drop i = j ∧ p = (x i, y i) := by
  unfold Host.argReduceFiber
  simp only [List.mem_map, List.mem_filter, List.mem_finRange, true_and, decide_eq_true_eq]
  constructor
  · rintro ⟨n, hn, rfl⟩
    exact ⟨_, hn, rfl⟩
  · rintro ⟨i, hi, rfl⟩
    exact ⟨s.rowMajor i, by rw [Equiv.symm_apply_apply]; exact hi, by rw [Equiv.symm_apply_apply]⟩

/-- The fold of a row of pairs, by the step from the start. -/
theorem reduce_row {s t u : Shape} {axes : List (Fin s.rank)} (z : FVec Ideal s .f32) (w : IVec s 32) (h : s.ReducesTo axes t) (hu : 0 < u.numel)
    (iz : FVec Ideal u .f32) (iw : IVec u 32) (j : t.Idx) (e : Fin 32 → s.Idx) (he : ∀ i, h.drop i = j ↔ ∃ k, e k = i)
    (hw : ∀ k, w (e k) = BitVec.ofNat 32 k) (hiz : ∀ i, iz i = (⊥ : EReal)) (hiw : ∀ i, iw i = 0#32)
    (hy : ∀ k, (⊥ : EReal) < z (e k)) {d : Fin 32} (hd : First (fun k => z (e k)) d) :
    (Host.argReduce (F := Ideal) (φ := .f32) reducer_argmax_f32_i32 z w iz iw h hu j).2 = BitVec.ofNat 32 d := by
  rw [Ideal.argReduce_eq_reduce2, Host.reduce2_eq_foldl_fiber, foldl_pairs (y := fun k => z (e k)) hy hd]
  · rfl
  · exact .inl (by rw [hiz, hiw])
  · intro p hp
    obtain ⟨i, hi, rfl⟩ := (mem_fiber z w h j p).mp hp
    obtain ⟨k, rfl⟩ := (he i).mp hi
    exact ⟨k, by rw [hw]; rfl⟩
  · exact .inr ((mem_fiber z w h j _).mpr ⟨e d, (he _).mpr ⟨d, rfl⟩, by rw [hw]; rfl⟩)

/-- The indices of a row. -/
theorem row_fiber (r : Fin 16) (b : Fin 8192) (i : S16x8192x32.Idx) :
    reducesTo_S16x8192x32_S16x8192_d2.drop i = ix2 r b ↔ ∃ k : Fin 32, ix3 r b k = i :=
  Shape.ReducesTo.fiber_r3_a2 reducesTo_S16x8192x32_S16x8192_d2 (ix2 r b) i

theorem start_word (i : S_.Idx) : (constant S_ .f32 0xFF800000#32 : FVec Ideal S_ .f32) i = (⊥ : EReal) := by
  show Ideal.ofBits FTy.f32 4286578688#32 = ⊥
  simp [Ideal.ofBits, Ideal.ieee]

theorem lane_word (r : Fin 16) (b : Fin 8192) (k : Fin 32) : iotaInDim S16x8192x32 32 2 (ix3 r b k) = BitVec.ofNat 32 k := rfl

/-- The index of a row, the fold spelled out. -/
theorem amax_eq (z : FVec Ideal S16x8192x32 .f32) : amax z = fun j =>
    (Host.argReduce reducer_argmax_f32_i32 z (iotaInDim S16x8192x32 32 2) (constant S_ .f32 0xFF800000#32) (constantI S_ 32 0#32)
      reducesTo_S16x8192x32_S16x8192_d2 h_S_ j).2 := by
  unfold amax
  rfl

/-- The place of a row's first maximum, of the fold spelled out. -/
theorem argReduce_apply (z : FVec Ideal S16x8192x32 .f32) (r : Fin 16) (b : Fin 8192) {d : Fin 32} (hy : ∀ k : Fin 32, (⊥ : EReal) < z (ix3 r b k))
    (h : First (fun k => z (ix3 r b k)) d) :
    (Host.argReduce reducer_argmax_f32_i32 z (iotaInDim S16x8192x32 32 2) (constant S_ .f32 0xFF800000#32) (constantI S_ 32 0#32)
      reducesTo_S16x8192x32_S16x8192_d2 h_S_ (ix2 r b)).2 = BitVec.ofNat 32 d :=
  reduce_row z (iotaInDim S16x8192x32 32 2) reducesTo_S16x8192x32_S16x8192_d2 h_S_ (constant S_ .f32 0xFF800000#32) (constantI S_ 32 0#32)
    (ix2 r b) (fun k => ix3 r b k) (row_fiber r b) (lane_word r b) start_word (fun _ => rfl) hy h

/-- The place of a row's first maximum. -/
theorem amax_apply (z : FVec Ideal S16x8192x32 .f32) (r : Fin 16) (b : Fin 8192) {d : Fin 32} (hy : ∀ k : Fin 32, (⊥ : EReal) < z (ix3 r b k))
    (h : First (fun k => z (ix3 r b k)) d) : amax z (ix2 r b) = BitVec.ofNat 32 d := by
  rw [amax_eq]
  exact argReduce_apply z r b hy h

end Cert.Proof.Argmax
-- ==== Proof.Entry.lean ====
/-
  What the kernel's buffers hold when the grid starts, and what each grid point's input blocks are: the casts of the
  library's parameters, the noise and the block-diagonal coefficients, as functions of the launched arguments.
-/
module

public import proofs.«01_k».proof.Proof.Outs
public import Idealize.ShloMosaic.Lib.Pipeline.ValueKit.Point
public import Idealize.ShloMosaic.Lib.Pipeline.Regions

@[expose] public section

set_option maxRecDepth 65536

noncomputable section

namespace Cert.Proof.Entry

open Cert.KernelIdeal Cert.KernelIdeal.Gen Cert.Proof.Point
open Idealize.ShloMosaic Idealize.ShloMosaic.TcCoe Idealize.SL.Sem

section Host

variable {F : FTy → Type} [FloatOps F] (m : (ℓ : Loc nD τ sig) → Buf (Elt F) ℓ) (c : Dev nD)

/-- The coefficients laid block-diagonally, as the host builds them. -/
def diag (k : FVec F S16x32 .f32) : FVec F S512x16 .f32 :=
  shapeCast S512x16 (mulf (broadcastInDim S16x32x16 ![0, 1, 2] bcast_S16x32x1_S16x32x16_0_1_2
      (broadcastInDim S16x32x1 ![0, 1] bcast_S16x32_S16x32x1_0_1 k))
    (broadcastInDim S16x32x16 ![0, 1, 2] bcast_S16x1x16_S16x32x16_0_1_2 (broadcastInDim S16x1x16 ![0, 2] bcast_S16x16_S16x1x16_0_2
      (uitofp .f32 (cmpi .eq (addi (iotaInDim S16x16 32 0) (broadcastInDim S16x16 ![] bcast_S_S16x16 (constantI S_ 32 0#32)))
        (iotaInDim S16x16 32 1)))))) shapeCasts_S16x32x16_S512x16

theorem V_v24 : V m c main_v24 = diag (m ((c : Thread nD τ).loc main_arg13)) := by chain_rfl
theorem V_v25 : V m c main_v25 = truncf .bf16 (m ((c : Thread nD τ).loc main_arg1) : FVec F S32x16x256 .f32) bitsLt_bf16_f32 := by chain_rfl
theorem V_v26 : V m c main_v26 = truncf .bf16 (m ((c : Thread nD τ).loc main_arg2) : FVec F S32x256 .f32) bitsLt_bf16_f32 := by chain_rfl
theorem V_v27 : V m c main_v27 = truncf .bf16 (m ((c : Thread nD τ).loc main_arg3) : FVec F S32x256x256 .f32) bitsLt_bf16_f32 := by chain_rfl
theorem V_v28 : V m c main_v28 = truncf .bf16 (m ((c : Thread nD τ).loc main_arg4) : FVec F S32x256 .f32) bitsLt_bf16_f32 := by chain_rfl
theorem V_v29 : V m c main_v29 = truncf .bf16 (m ((c : Thread nD τ).loc main_arg5) : FVec F S32x256x1 .f32) bitsLt_bf16_f32 := by chain_rfl

end Host

/-- The comparison of two small words, converted: one where they are equal, zero elsewhere. -/
theorem eq_word {a b : Nat} (ha : a < 2 ^ 31) (hb : b < 2 ^ 31) :
    (FloatOps.uitofp FTy.f32 (IntOp.cmpi .eq (BitVec.ofNat 32 a) (BitVec.ofNat 32 b)) : Ideal .f32) = if a = b then (1 : EReal) else 0 := by
  show (((BitVec.ofBool (BitVec.ofNat 32 a == BitVec.ofNat 32 b)).toNat : ℝ) : EReal) = _
  by_cases h : a = b
  · subst h
    rw [if_pos rfl, beq_self_eq_true]
    show (((1 : ℕ) : ℝ) : EReal) = 1
    norm_num
  · have hne : BitVec.ofNat 32 a ≠ BitVec.ofNat 32 b := fun hh => h (by
      have := congrArg BitVec.toNat hh
      simp only [BitVec.toNat_ofNat] at this
      omega)
    rw [if_neg h, beq_eq_false_iff_ne.mpr hne]
    norm_num

theorem diag_apply (k : FVec Ideal S16x32 .f32) (r : Fin 16) (n : Fin 32) (d : Fin 16) :
    diag k (ix2 (place r n) d) = if r = d then k (ix2 r n) else (0 : EReal) := by
  unfold diag
  rw [shapeCast_apply _ _ _ (ix3 r n d) (by
    rw [Shape.rowMajor_val_three, Shape.rowMajor_val_two]
    rfl)]
  pointwise
  rw [show IntOp.addi (BitVec.ofNat 32 r.val) 0#32 = BitVec.ofNat 32 r.val from BitVec.add_zero _, eq_word (by omega) (by omega)]
  by_cases h : r = d
  · subst h
    rw [if_pos rfl, if_pos rfl, mul_one]
  · rw [if_neg h, if_neg fun hh => h (Fin.ext hh), mul_zero]

section Blocks

variable {F : FTy → Type} [FloatOps F] (m : (ℓ : Loc nD τ sig) → Buf (Elt F) ℓ) (c : Dev nD) (t : Fin cfg0.N)

/-- Row `j` of grid point `t`'s block. -/
def row (t : Fin cfg0.N) (j : Fin 512) : Fin 8192 := ⟨t.val * 512 + j.val, by have : t.val < 16 := t.isLt; omega⟩

theorem idx_moving : ∀ t : Fin cfg0.N, win0_0.index t = ![t.val, 0] ∧ win0_1.index t = ![0, t.val, 0]
    ∧ win0_15.index t = ![t.val, 0] ∧ win0_16.index t = ![0, t.val, 0] :=
  (by decide +kernel : ∀ t : Fin grid0.N, win0_0.index t = ![t.val, 0] ∧ win0_1.index t = ![0, t.val, 0]
    ∧ win0_15.index t = ![t.val, 0] ∧ win0_16.index t = ![0, t.val, 0])

theorem iblk0 (j : Fin 512) (i : Fin 16) : iblk m c 0 t (ix2 j i) = m ((c : Thread nD τ).loc main_arg0) (ix2 (row t j) i) := by
  rw [← V_main_arg0 m c]
  blk_ext [iblk, row, (idx_moving t).1]

theorem iblk1 (r : Fin 16) (j : Fin 512) (i : Fin 32) : iblk m c 1 t (ix3 r j i) = V m c main_v12 (ix3 r (row t j) i) := by
  blk_ext [iblk, row, (idx_moving t).2.1]

theorem iblk2 : iblk m c 2 t = V m c main_v25 :=
  Memref.read_access_unit_zero (Elt F) main_v25 (off := fun a => win0_2.index t a * main_v25.ty.shape.size a) (funext fun a => by fin_cases a <;> rfl)
    (fun a => by fin_cases a <;> exact le_of_eq (by rfl)) _
theorem iblk3 : iblk m c 3 t = V m c main_v26 :=
  Memref.read_access_unit_zero (Elt F) main_v26 (off := fun a => win0_3.index t a * main_v26.ty.shape.size a) (funext fun a => by fin_cases a <;> rfl)
    (fun a => by fin_cases a <;> exact le_of_eq (by rfl)) _
theorem iblk4 : iblk m c 4 t = V m c main_v27 :=
  Memref.read_access_unit_zero (Elt F) main_v27 (off := fun a => win0_4.index t a * main_v27.ty.shape.size a) (funext fun a => by fin_cases a <;> rfl)
    (fun a => by fin_cases a <;> exact le_of_eq (by rfl)) _
theorem iblk5 : iblk m c 5 t = V m c main_v28 :=
  Memref.read_access_unit_zero (Elt F) main_v28 (off := fun a => win0_5.index t a * main_v28.ty.shape.size a) (funext fun a => by fin_cases a <;> rfl)
    (fun a => by fin_cases a <;> exact le_of_eq (by rfl)) _
theorem iblk6 : iblk m c 6 t = V m c main_v29 :=
  Memref.read_access_unit_zero (Elt F) main_v29 (off := fun a => win0_6.index t a * main_v29.ty.shape.size a) (funext fun a => by fin_cases a <;> rfl)
    (fun a => by fin_cases a <;> exact le_of_eq (by rfl)) _
theorem iblk7 : iblk m c 7 t = V m c main_arg6 :=
  Memref.read_access_unit_zero (Elt F) main_arg6 (off := fun a => win0_7.index t a * main_arg6.ty.shape.size a) (funext fun a => by fin_cases a <;> rfl)
    (fun a => by fin_cases a <;> exact le_of_eq (by rfl)) _
theorem iblk8 : iblk m c 8 t = V m c main_arg7 :=
  Memref.read_access_unit_zero (Elt F) main_arg7 (off := fun a => win0_8.index t a * main_arg7.ty.shape.size a) (funext fun a => by fin_cases a <;> rfl)
    (fun a => by fin_cases a <;> exact le_of_eq (by rfl)) _
theorem iblk9 : iblk m c 9 t = V m c main_arg8 :=
  Memref.read_access_unit_zero (Elt F) main_arg8 (off := fun a => win0_9.index t a * main_arg8.ty.shape.size a) (funext fun a => by fin_cases a <;> rfl)
    (fun a => by fin_cases a <;> exact le_of_eq (by rfl)) _
theorem iblk10 : iblk m c 10 t = V m c main_arg9 :=
  Memref.read_access_unit_zero (Elt F) main_arg9 (off := fun a => win0_10.index t a * main_arg9.ty.shape.size a) (funext fun a => by fin_cases a <;> rfl)
    (fun a => by fin_cases a <;> exact le_of_eq (by rfl)) _
theorem iblk11 : iblk m c 11 t = V m c main_arg10 :=
  Memref.read_access_unit_zero (Elt F) main_arg10 (off := fun a => win0_11.index t a * main_arg10.ty.shape.size a) (funext fun a => by fin_cases a <;> rfl)
    (fun a => by fin_cases a <;> exact le_of_eq (by rfl)) _
theorem iblk12 : iblk m c 12 t = V m c main_arg11 :=
  Memref.read_access_unit_zero (Elt F) main_arg11 (off := fun a => win0_12.index t a * main_arg11.ty.shape.size a) (funext fun a => by fin_cases a <;> rfl)
    (fun a => by fin_cases a <;> exact le_of_eq (by rfl)) _
theorem iblk13 : iblk m c 13 t = V m c main_arg12 :=
  Memref.read_access_unit_zero (Elt F) main_arg12 (off := fun a => win0_13.index t a * main_arg12.ty.shape.size a) (funext fun a => by fin_cases a <;> rfl)
    (fun a => by fin_cases a <;> exact le_of_eq (by rfl)) _
theorem iblk14 : iblk m c 14 t = V m c main_v24 :=
  Memref.read_access_unit_zero (Elt F) main_v24 (off := fun a => win0_14.index t a * main_v24.ty.shape.size a) (funext fun a => by fin_cases a <;> rfl)
    (fun a => by fin_cases a <;> exact le_of_eq (by rfl)) _

end Blocks

end Cert.Proof.Entry
-- ==== Proof.Gates.lean ====
/-
  The reference's gates: on a row of real noisy logits the softmax keeps the place of the first maximum, and the
  straight-through sum of a one-hot and a real softmax is the one-hot.
-/
module

public import proofs.«01_k».proof.Proof.Argmax
public import proofs.«01_k».proof.Proof.Entry
public import Idealize.ShloMosaic.Lib.Pointwise
public import Idealize.ShloMosaic.Lib.IdealHost

@[expose] public section

set_option maxRecDepth 16384

noncomputable section

namespace Cert.Proof.Gates

open Cert.Proof.RefVals Cert.Proof.Net Cert.Proof.Argmax Cert.ReferenceIdeal Cert.ReferenceIdeal.Gen
open Idealize.ShloMosaic Idealize.ShloMosaic.TcCoe Idealize.SL.Sem

theorem noisy_apply (l g : FVec Ideal S16x8192x32 .f32) (r : Fin 16) (b : Fin 8192) (d : Fin 32) :
    noisy l g (ix3 r b d) = (l (ix3 r b d) : EReal) + g (ix3 r b d) := by
  unfold noisy
  pointwise
  rw [← EReal.coe_one, Ideal.div_coe one_ne_zero]
  simp

theorem start : Ideal.ofBits FTy.f32 4286578688#32 = ⊥ := by simp [Ideal.ofBits, Ideal.ieee]

/-- A row's maximum. -/
theorem reduce_apply (z : FVec Ideal S16x8192x32 .f32) (r : Fin 16) (b : Fin 8192) :
    (Host.reduce FloatOps.maximumf z (constant S_ .f32 0xFF800000#32) reducesTo_S16x8192x32_S16x8192_d2 h_S_ : FVec Ideal S16x8192 .f32) (ix2 r b)
      = Finset.fold max ⊥ (fun k : Fin 32 => (z (ix3 r b k) : EReal)) Finset.univ := by
  pointwise
  simp only [start]

theorem rowMax_eq (z : FVec Ideal S16x8192x32 .f32) :
    rowMax z = broadcastInDim S16x8192x32 ![0, 1, 2] bcast_S16x8192x1_S16x8192x32_0_1_2
      (broadcastInDim S16x8192x1 ![0, 1] bcast_S16x8192_S16x8192x1_0_1
        (maximumf (broadcastInDim S16x8192 ![] bcast_S_S16x8192 (constant S_ .f32 0xFF800000#32))
          (Host.reduce FloatOps.maximumf z (constant S_ .f32 0xFF800000#32) reducesTo_S16x8192x32_S16x8192_d2 h_S_))) := by
  unfold rowMax
  rfl

/-- A vector spread over the rows. -/
theorem spread_apply (m : FVec Ideal S16x8192 .f32) (r : Fin 16) (b : Fin 8192) (d : Fin 32) :
    broadcastInDim S16x8192x32 ![0, 1, 2] bcast_S16x8192x1_S16x8192x32_0_1_2
      (broadcastInDim S16x8192x1 ![0, 1] bcast_S16x8192_S16x8192x1_0_1
        (maximumf (broadcastInDim S16x8192 ![] bcast_S_S16x8192 (constant S_ .f32 0xFF800000#32)) m)) (ix3 r b d) = (m (ix2 r b) : EReal) := by
  pointwise
  rw [start]
  exact max_eq_right bot_le

theorem rowMax_apply (z : FVec Ideal S16x8192x32 .f32) (r : Fin 16) (b : Fin 8192) (d : Fin 32) :
    rowMax z (ix3 r b d) = Finset.fold max ⊥ (fun k : Fin 32 => (z (ix3 r b k) : EReal)) Finset.univ := by
  rw [rowMax_eq, spread_apply, reduce_apply]

theorem rowSum_apply (z : FVec Ideal S16x8192x32 .f32) (r : Fin 16) (b : Fin 8192) (d : Fin 32) :
    rowSum z (ix3 r b d) = ∑ k : Fin 32, (z (ix3 r b k) : EReal) := by
  unfold rowSum
  pointwise

theorem expo_apply (z : FVec Ideal S16x8192x32 .f32) (r : Fin 16) (b : Fin 8192) (d : Fin 32) :
    expo z (ix3 r b d) = Ideal.exp ((z (ix3 r b d) : EReal) - rowMax z (ix3 r b d)) := by
  unfold expo
  pointwise

theorem soft_apply (z : FVec Ideal S16x8192x32 .f32) (r : Fin 16) (b : Fin 8192) (d : Fin 32) :
    soft z (ix3 r b d) = Ideal.div (expo z (ix3 r b d)) (rowSum (expo z) (ix3 r b d)) := by
  unfold soft
  pointwise

theorem onehot_apply (a : IVec S16x8192 32) (r : Fin 16) (b : Fin 8192) (d : Fin 32) :
    onehot (F := Ideal) a (ix3 r b d) = FloatOps.uitofp .f32 (IntOp.cmpi .eq (a (ix2 r b)) (BitVec.ofNat 32 d)) := by
  unfold onehot
  pointwise

theorem gatesR_apply (y : FVec Ideal S16x8192x32 .f32) (r : Fin 16) (b : Fin 8192) (d : Fin 32) :
    gatesR y (ix3 r b d) = ((onehot (F := Ideal) (amax y) (ix3 r b d) : EReal) - y (ix3 r b d)) + y (ix3 r b d) := by
  unfold gatesR
  pointwise

end Cert.Proof.Gates
-- ==== Proof.GateRow.lean ====
/-
  The gates the reference makes of a row of real noisy logits: one at the place of the first maximum.
-/
module

public import proofs.«01_k».proof.Proof.Gates
public import proofs.«01_k».proof.Proof.Reals

@[expose] public section

set_option maxRecDepth 16384

noncomputable section

namespace Cert.Proof.GateRow

open Cert.Proof.RefVals Cert.Proof.Net Cert.Proof.Argmax Cert.Proof.Gates Cert.Proof.Reals Cert.ReferenceIdeal Cert.ReferenceIdeal.Gen
open Idealize.ShloMosaic Idealize.ShloMosaic.TcCoe Idealize.SL.Sem

/-- The softmax of a row of reals: real, and in the order of the row. -/
theorem soft_row (z : FVec Ideal S16x8192x32 .f32) (r : Fin 16) (b : Fin 8192) (x : Fin 32 → ℝ) (hx : ∀ k, z (ix3 r b k) = (x k : EReal)) :
    ∃ y : Fin 32 → ℝ, (∀ k, soft z (ix3 r b k) = (y k : EReal)) ∧ ∀ i j, y i < y j ↔ x i < x j := by
  obtain ⟨m, hm⟩ := First.exists (fun k : Fin 32 => (z (ix3 r b k) : EReal))
  have he (k : Fin 32) : expo z (ix3 r b k) = ((Real.exp (x k - x m) : ℝ) : EReal) := by
    rw [expo_apply, rowMax_apply, fold_max_eq hm]
    simp only [hx]
    rw [← EReal.coe_sub, Ideal.exp_coe]
  have hs (k : Fin 32) : rowSum (expo z) (ix3 r b k) = ((∑ i, Real.exp (x i - x m) : ℝ) : EReal) := by
    rw [rowSum_apply]
    simp only [he]
    exact coe_sum _ _
  have hpos : 0 < ∑ i : Fin 32, Real.exp (x i - x m) := Finset.sum_pos (fun i _ => Real.exp_pos _) Finset.univ_nonempty
  refine ⟨fun k => Real.exp (x k - x m) * (1 / ∑ i, Real.exp (x i - x m)), fun k => ?_, fun i j => ?_⟩
  · rw [soft_apply, he, hs, Ideal.div_coe hpos.ne', EReal.coe_mul]
  · have hp : 0 < 1 / ∑ i : Fin 32, Real.exp (x i - x m) := by positivity
    rw [mul_lt_mul_iff_left₀ hp, Real.exp_lt_exp]
    constructor <;> intro h <;> linarith

/-- Two rows in one order have their first maximum at one place. -/
theorem first_congr {f g : Fin 32 → EReal} (h : ∀ i j, f i < f j ↔ g i < g j) (d : Fin 32) : First f d ↔ First g d := by
  simp only [First, ← not_lt, h]

/-- The straight-through sum. -/
theorem sub_add (v y : ℝ) : ((v : EReal) - y) + y = v := by
  rw [← EReal.coe_sub, ← EReal.coe_add]
  congr 1
  ring

open Classical in
/-- The gates of a row of reals. -/
theorem gate_row (z : FVec Ideal S16x8192x32 .f32) (r : Fin 16) (b : Fin 8192) (hz : ∀ k : Fin 32, IsReal (z (ix3 r b k))) (d : Fin 32) :
    gatesR (soft z) (ix3 r b d) = if First (fun k : Fin 32 => (z (ix3 r b k) : EReal)) d then (1 : EReal) else 0 := by
  choose x hx using hz
  obtain ⟨y, hy, hlt⟩ := soft_row z r b x hx
  have hord (i j : Fin 32) : (soft z (ix3 r b i) : EReal) < soft z (ix3 r b j) ↔ (z (ix3 r b i) : EReal) < z (ix3 r b j) := by
    rw [hy, hy, hx, hx, EReal.coe_lt_coe_iff, EReal.coe_lt_coe_iff, hlt]
  obtain ⟨m, hm⟩ := First.exists (fun k : Fin 32 => (z (ix3 r b k) : EReal))
  have hf : First (fun k : Fin 32 => (soft z (ix3 r b k) : EReal)) m := (first_congr hord m).mpr hm
  rw [gatesR_apply, onehot_apply, amax_apply (soft z) r b (fun k => by rw [hy]; exact EReal.bot_lt_coe _) hf,
    Entry.eq_word (by omega) (by omega), hy]
  by_cases h : m = d
  · subst h
    rw [if_pos rfl, if_pos hm]
    exact_mod_cast sub_add 1 (y m)
  · rw [if_neg (fun e => h (Fin.ext e)), if_neg (fun e => h (hm.unique e))]
    exact_mod_cast sub_add 0 (y d)

end Cert.Proof.GateRow
-- ==== Proof.RefNet.lean ====
/-
  The reference's networks at an index: a library output is `Outs.lib` and a router's logit `Outs.rout`, as the kernel's.
-/
module

public import proofs.«01_k».proof.Proof.RefRes
public import proofs.«01_k».proof.Proof.Outs
public import Idealize.ShloMosaic.Lib.Pointwise

@[expose] public section

set_option maxRecDepth 16384

noncomputable section

namespace Cert.Proof.RefNet

open Cert.Proof.RefVals Cert.Proof.Net Cert.Proof.Outs Cert.ReferenceIdeal Cert.ReferenceIdeal.Gen
open Idealize.ShloMosaic Idealize.ShloMosaic.TcCoe Idealize.SL.Sem

theorem libH1_apply (X : FVec Ideal S8192x16 .f32) (W1 : FVec Ideal S32x16x256 .f32) (b1 : FVec Ideal S32x256 .f32) (n : Fin 32) (b : Fin 8192) (k : Fin 256) :
    libH1 X W1 b1 (ix3 n b k) = max ((∑ i : Fin 16, X (ix2 b i) * W1 (ix3 n i k)) + b1 (ix2 n k)) (0 : EReal) := by
  unfold libH1
  pointwise
  simp only [mul_comm]

theorem libH2_apply (H : FVec Ideal S32x8192x256 .f32) (W2 : FVec Ideal S32x256x256 .f32) (b2 : FVec Ideal S32x256 .f32) (n : Fin 32) (b : Fin 8192) (k : Fin 256) :
    libH2 H W2 b2 (ix3 n b k) = max ((∑ i : Fin 256, H (ix3 n b i) * W2 (ix3 n i k)) + b2 (ix2 n k)) (0 : EReal) := by
  unfold libH2
  pointwise

theorem libOut_apply (H : FVec Ideal S32x8192x256 .f32) (W3 : FVec Ideal S32x256x1 .f32) (b3 : FVec Ideal S32x1 .f32) (n : Fin 32) (b : Fin 8192) :
    libOut H W3 b3 (ix2 b n) = (∑ i : Fin 256, H (ix3 n b i) * W3 (ix3 n i 0)) + b3 (ix2 n 0) := by
  unfold libOut
  pointwise

theorem routH1_apply (X : FVec Ideal S8192x16 .f32) (W1 : FVec Ideal S16x16x256 .f32) (b1 : FVec Ideal S16x256 .f32) (n : Fin 16) (b : Fin 8192) (k : Fin 256) :
    routH1 X W1 b1 (ix3 n b k) = max ((∑ i : Fin 16, X (ix2 b i) * W1 (ix3 n i k)) + b1 (ix2 n k)) (0 : EReal) := by
  unfold routH1
  pointwise
  simp only [mul_comm]

theorem routH2_apply (H : FVec Ideal S16x8192x256 .f32) (W2 : FVec Ideal S16x256x256 .f32) (b2 : FVec Ideal S16x256 .f32) (n : Fin 16) (b : Fin 8192) (k : Fin 256) :
    routH2 H W2 b2 (ix3 n b k) = max ((∑ i : Fin 256, H (ix3 n b i) * W2 (ix3 n i k)) + b2 (ix2 n k)) (0 : EReal) := by
  unfold routH2
  pointwise

theorem routOut_apply (H : FVec Ideal S16x8192x256 .f32) (W3 : FVec Ideal S16x256x32 .f32) (b3 : FVec Ideal S16x32 .f32) (n : Fin 16) (b : Fin 8192) (d : Fin 32) :
    routOut H W3 b3 (ix3 n b d) = (∑ i : Fin 256, H (ix3 n b i) * W3 (ix3 n i d)) + b3 (ix2 n d) := by
  unfold routOut
  pointwise

/-- A library output. -/
theorem lib_apply (X : FVec Ideal S8192x16 .f32) (W1 : FVec Ideal S32x16x256 .f32) (b1 : FVec Ideal S32x256 .f32) (W2 : FVec Ideal S32x256x256 .f32)
    (b2 : FVec Ideal S32x256 .f32) (W3 : FVec Ideal S32x256x1 .f32) (b3 : FVec Ideal S32x1 .f32) (b : Fin 8192) (n : Fin 32) :
    libOut (libH2 (libH1 X W1 b1) W2 b2) W3 b3 (ix2 b n) = lib (fun i => X (ix2 b i)) W1 b1 W2 b2 W3 b3 n := by
  simp only [libOut_apply, libH2_apply, libH1_apply, lib, net]

/-- A router's logit. -/
theorem rout_apply (X : FVec Ideal S8192x16 .f32) (W1 : FVec Ideal S16x16x256 .f32) (b1 : FVec Ideal S16x256 .f32) (W2 : FVec Ideal S16x256x256 .f32)
    (b2 : FVec Ideal S16x256 .f32) (W3 : FVec Ideal S16x256x32 .f32) (b3 : FVec Ideal S16x32 .f32) (r : Fin 16) (b : Fin 8192) (d : Fin 32) :
    routOut (routH2 (routH1 X W1 b1) W2 b2) W3 b3 (ix3 r b d) = rout (fun i => X (ix2 b i)) W1 b1 W2 b2 W3 b3 r d := by
  simp only [routOut_apply, routH2_apply, routH1_apply, rout, net]

end Cert.Proof.RefNet
-- ==== Proof.Noise.lean ====
/-
  The noise is real at every index: the uniform draw is in [0, 1), whatever the random words are, and so clipped from below
  it is in (0, 1), where the logarithm is negative.
-/
module

public import proofs.«01_k».proof.Proof.RefRes
public import Idealize.ShloMosaic.Lib.Pointwise
public import Idealize.ShloMosaic.Lib.IdealHost

@[expose] public section

set_option maxRecDepth 65536

noncomputable section

namespace Cert.Proof.Noise

open Cert.Proof.RefVals Cert.Proof.RefRes Cert.ReferenceIdeal Cert.ReferenceIdeal.Gen
open Idealize.ShloMosaic Idealize.ShloMosaic.TcCoe Idealize.ShloMosaic.StableHlo Idealize.SL.Sem

section
variable {F : FTy → Type} [FloatOps F]

/-- A uniform draw of random words: the words' high bits as the fraction of a number in [1, 2), minus one, scaled and shifted
    to the bounds. -/
def uniform (w : IVec S16x8192x32 32) (lo hi : FVec F S1x1x1 .f32) : FVec F S16x8192x32 .f32 :=
  maximumf (broadcastInDim S16x8192x32 ![0, 1, 2] bcast_S1x1x1_S16x8192x32_0_1_2 lo)
    (addf
      (mulf
        (subf
          (bitcastToFloat .f32
            (ori (Host.shrui w (broadcastInDim S16x8192x32 ![] bcast_S_S16x8192x32 (constantI S_ 32 9#32)))
              (broadcastInDim S16x8192x32 ![] bcast_S_S16x8192x32 (constantI S_ 32 1065353216#32))))
          (broadcastInDim S16x8192x32 ![] bcast_S_S16x8192x32 (constant S_ .f32 0x3F800000#32)))
        (broadcastInDim S16x8192x32 ![0, 1, 2] bcast_S1x1x1_S16x8192x32_0_1_2 (subf hi lo)))
      (broadcastInDim S16x8192x32 ![0, 1, 2] bcast_S1x1x1_S16x8192x32_0_1_2 lo))

/-- A bound of the draw. -/
def bound (b : BitVec 32) : FVec F S1x1x1 .f32 := broadcastInDim S1x1x1 ![] bcast_S_S1x1x1 (constant S_ .f32 b)

/-- The draw up to the random words, and from them on. -/
abbrev words : List (HloOp τ sig (Elt F)) := Ref.opsUniform.take 250
abbrev tail : List (HloOp τ sig (Elt F)) := Ref.opsUniform.drop 250

theorem tail_v39 (V : Valuation τ sig (Elt F)) :
    after tail V (main_v39 : DevRef τ sig)
      = uniform (V (main_call4_v24 : DevRef τ sig)) (V (main_call4_v2 : DevRef τ sig)) (V (main_call4_v3 : DevRef τ sig)) := by
  chain_rfl

theorem words_bounds (V : Valuation τ sig (Elt F)) :
    after (Ref.opsKey ++ words) V (main_call4_v2 : DevRef τ sig) = bound 0x00000000#32 ∧
    after (Ref.opsKey ++ words) V (main_call4_v3 : DevRef τ sig) = bound 0x3F800000#32 := by
  refine ⟨?_, ?_⟩ <;> chain_rfl

theorem draw_uniform (V : Valuation τ sig (Elt F)) :
    ∃ w, draw V = uniform w (bound 0x00000000#32) (bound 0x3F800000#32) := by
  have h : (Ref.opsKey ++ Ref.opsUniform : List (HloOp τ sig (Elt F))) = (Ref.opsKey ++ words) ++ tail := rfl
  refine ⟨after (Ref.opsKey ++ words) V (main_call4_v24 : DevRef τ sig), ?_⟩
  rw [draw, h, after_append, tail_v39, (words_bounds V).1, (words_bounds V).2]

end

/-- A word's high bits under the exponent of one: a number in [1, 2). -/
theorem ofBits_unit (w : BitVec 32) : ∃ f : ℝ, 0 ≤ f ∧ f < 1 ∧ Ideal.ofBits FTy.f32 ((w >>> 9) ||| 1065353216#32) = ((1 + f : ℝ) : EReal) := by
  have hs : ((w >>> 9) ||| 1065353216#32).extractLsb' 31 1 = 0#1 := by
    ext i hi
    interval_cases i
    simp
  have he : ((w >>> 9) ||| 1065353216#32).extractLsb' 23 8 = 127#8 := by
    ext i hi
    interval_cases i <;> simp
  obtain ⟨n, hn, hlt⟩ : ∃ n : ℕ, (((w >>> 9) ||| 1065353216#32).extractLsb' 0 23).toNat = n ∧ n < 2 ^ 23 := ⟨_, rfl, BitVec.isLt _⟩
  refine ⟨(n : ℝ) / 2 ^ 23, by positivity, ?_, ?_⟩
  · rw [div_lt_one (by positivity)]
    exact_mod_cast hlt
  · simp only [Ideal.ofBits, Ideal.ieee, Nat.reduceAdd, hs, he, hn]
    simp [-EReal.coe_mul, -EReal.coe_add]
    norm_num
    ring

/-- The clip's bound. -/
theorem ofBits_eps : Ideal.ofBits FTy.f32 0x2EDBE6FF#32 = ((14411519 / 2 ^ 57 : ℝ) : EReal) := by
  simp [Ideal.ofBits, Ideal.ieee, -EReal.coe_mul]
  norm_num

/-- Minus the logarithm of minus the logarithm is real on (0, 1). -/
theorem loglog_real {x : ℝ} (h0 : 0 < x) (h1 : x < 1) : ∃ y : ℝ, -Ideal.log (-Ideal.log (x : EReal)) = (y : EReal) := by
  refine ⟨-Real.log (-Real.log x), ?_⟩
  have hl : Real.log x < 0 := Real.log_neg h0 h1
  rw [Ideal.log_coe, if_neg (not_le.2 h0), ← EReal.coe_neg, Ideal.log_coe, if_neg (by linarith), EReal.coe_neg]

/-- The draw is in [0, 1). -/
theorem uniform_unit (w : IVec S16x8192x32 32) (r : Fin 16) (b : Fin 8192) (d : Fin 32) :
    ∃ f : ℝ, 0 ≤ f ∧ f < 1 ∧ uniform (F := Ideal) w (bound 0x00000000#32) (bound 0x3F800000#32) (ix3 r b d) = (f : EReal) := by
  obtain ⟨f, h0, h1, hf⟩ := ofBits_unit (w (ix3 r b d))
  refine ⟨f, h0, h1, ?_⟩
  have e : uniform (F := Ideal) w (bound 0x00000000#32) (bound 0x3F800000#32) (ix3 r b d)
      = max (0 : EReal) ((Ideal.ofBits FTy.f32 ((w (ix3 r b d) >>> 9) ||| 1065353216#32) - 1) * (1 - 0) + 0) := by
    unfold uniform bound
    pointwise
    rfl
  rw [e, hf]
  simp only [sub_zero, mul_one, add_zero]
  rw [show ((1 + f : ℝ) : EReal) - 1 = ((f : ℝ) : EReal) from by rw [← EReal.coe_one, ← EReal.coe_sub]; congr 1; ring]
  exact max_eq_right (by exact_mod_cast h0)

/-- The noise of a draw at an index. -/
theorem noise_apply (u : FVec Ideal S16x8192x32 .f32) (r : Fin 16) (b : Fin 8192) (d : Fin 32) :
    noise u (ix3 r b d) = -Ideal.log (-Ideal.log (max (Ideal.ofBits FTy.f32 0x2EDBE6FF#32) (u (ix3 r b d)))) := by
  unfold noise
  pointwise

/-- The noise of a draw in [0, 1) is real. -/
theorem noise_uniform_real (u : FVec Ideal S16x8192x32 .f32) (r : Fin 16) (b : Fin 8192) (d : Fin 32) {f : ℝ} (h1 : f < 1) (hf : u (ix3 r b d) = (f : EReal)) :
    ∃ y : ℝ, noise u (ix3 r b d) = (y : EReal) := by
  rw [noise_apply, hf, ofBits_eps, ← EReal.coe_strictMono.monotone.map_max]
  exact loglog_real (lt_max_of_lt_left (by norm_num)) (max_lt (by norm_num) h1)

/-- The noise is real. -/
theorem noise_real (V : Valuation τ sig (Elt Ideal)) (r : Fin 16) (b : Fin 8192) (d : Fin 32) :
    ∃ y : ℝ, noise (draw V) (ix3 r b d) = (y : EReal) := by
  obtain ⟨w, hw⟩ := draw_uniform V
  obtain ⟨f, _, h1, hf⟩ := uniform_unit w r b d
  rw [hw]
  exact noise_uniform_real _ r b d h1 hf

end Cert.Proof.Noise
-- ==== Proof.Arrays.lean ====
/-
  The kernel's two result arrays after the run, index by index, as functions of the launched arguments and of the noise
  the host made: every grid point writes its block (`Outs`), and the blocks tile the arrays.
-/
module

public import proofs.«01_k».proof.Proof.Entry

@[expose] public section

set_option maxRecDepth 16384

noncomputable section

namespace Cert.Proof.Arrays

open Cert.KernelIdeal Cert.KernelIdeal.Gen Cert.Proof.Net Cert.Proof.Point Cert.Proof.Outs Cert.Proof.Entry
open Idealize.ShloMosaic Idealize.ShloMosaic.TcCoe Idealize.SL.Sem

/-- A router's noisy logit. -/
def logit (X : S8192x16.Idx → EReal) (W1 : S16x16x256.Idx → EReal) (b1 : S16x256.Idx → EReal) (W2 : S16x256x256.Idx → EReal)
    (b2 : S16x256.Idx → EReal) (W3 : S16x256x32.Idx → EReal) (b3 : S16x32.Idx → EReal) (G : S16x8192x32.Idx → EReal)
    (r : Fin 16) (b : Fin 8192) (d : Fin 32) : EReal :=
  rout (fun i => X (ix2 b i)) W1 b1 W2 b2 W3 b3 r d + G (ix3 r b d)

open Classical in
/-- The gate: one at the row's first maximum. -/
def gate (L : Fin 16 → Fin 8192 → Fin 32 → EReal) (r : Fin 16) (b : Fin 8192) (d : Fin 32) : EReal :=
  if First (L r b) d then 1 else 0

/-- The derivative at a row: the gated library against the coefficients. -/
def deriv (L : Fin 16 → Fin 8192 → Fin 32 → EReal) (M : Fin 8192 → Fin 32 → EReal) (C : S16x32.Idx → EReal) (b : Fin 8192) (d : Fin 16) : EReal :=
  ∑ n : Fin 32, gate L d b n * M b n * C (ix2 d n)

variable (m : (ℓ : Loc nD τ sig) → Buf (Elt Ideal) ℓ) (c : Dev nD)

/-- The kernel's noisy logits. -/
def L : Fin 16 → Fin 8192 → Fin 32 → EReal :=
  logit (m ((c : Thread nD τ).loc main_arg0)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (V m c main_v12)

/-- The kernel's library outputs. -/
def M (b : Fin 8192) (n : Fin 32) : EReal :=
  lib (fun i => (m ((c : Thread nD τ).loc main_arg0) : S8192x16.Idx → EReal) (ix2 b i)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) n

theorem L_block (t : Fin cfg0.N) (j : Fin 512) (r : Fin 16) (k : Fin 32) :
    rout (fun i => iblk m c 0 t (ix2 j i)) (iblk m c 8 t) (iblk m c 9 t) (iblk m c 10 t) (iblk m c 11 t) (iblk m c 12 t) (iblk m c 13 t) r k
      + iblk m c 1 t (ix3 r j k) = L m c r (row t j) k := by
  rw [iblk1, iblk8, iblk9, iblk10, iblk11, iblk12, iblk13]
  simp only [iblk0]
  rw [V_main_arg7, V_main_arg8, V_main_arg9, V_main_arg10, V_main_arg11, V_main_arg12]
  rfl

theorem M_block (t : Fin cfg0.N) (j : Fin 512) (n : Fin 32) :
    lib (fun i => iblk m c 0 t (ix2 j i)) (iblk m c 2 t) (iblk m c 3 t) (iblk m c 4 t) (iblk m c 5 t) (iblk m c 6 t) (iblk m c 7 t) n
      = M m c (row t j) n := by
  rw [iblk2, iblk3, iblk4, iblk5, iblk6, iblk7]
  simp only [iblk0]
  rw [V_v25, V_v26, V_v27, V_v28, V_v29, V_main_arg6]
  rfl

theorem C_block (t : Fin cfg0.N) (r : Fin 16) (n : Fin 32) (d : Fin 16) :
    iblk m c 14 t (ix2 (place r n) d) = if r = d then (m ((c : Thread nD τ).loc main_arg13) : S16x32.Idx → EReal) (ix2 r n) else (0 : EReal) := by
  rw [iblk14, V_v24]
  exact diag_apply _ r n d

theorem out16_block (t : Fin cfg0.N) (r : Fin 16) (j : Fin 512) (d : Fin 32) :
    (outsAt0 m c t).2 (ix3 r j d) = gate (L m c) r (row t j) d := by
  simp only [outsAt0]
  rw [out16_apply, funext fun k => L_block m c t j r k]
  rfl

theorem out15_block (t : Fin cfg0.N) (j : Fin 512) (d : Fin 16) :
    (outsAt0 m c t).1 (ix2 j d) = deriv (L m c) (M m c) (m ((c : Thread nD τ).loc main_arg13)) (row t j) d := by
  simp only [outsAt0]
  rw [out15_apply (C := fun r n => (m ((c : Thread nD τ).loc main_arg13) : S16x32.Idx → EReal) (ix2 r n)) (hc := C_block m c t),
    funext fun k => L_block m c t j d k]
  simp only [M_block]
  rfl

/-- The gates the kernel leaves. -/
theorem gates_array : (dats m 0 c).arrAt 16 cfg0.N = fun i : S16x8192x32.Idx => gate (L m c) (i 0) (i 1) (i 2) := by
  refine (dats m 0 c).arrAt_eq_of_covers 16 _ (by decide +kernel) fun t hf y => ?_
  have e : ((cfg0.win 16).blk t).view.emb y = (ix3 (y 0) (row t (y 1)) (y 2) : S16x8192x32.Idx) := by
    blk_ext [row, (idx_moving t).2.2.2]
  refine Eq.trans ?_ (congrArg (fun i : S16x8192x32.Idx => gate (L m c) (i 0) (i 1) (i 2)) e.symm)
  refine Eq.trans ?_ (out16_block m c t (y 0) (y 1) (y 2))
  rw [after0_16]
  generalize (outsAt0 m c t).2 = o
  exact congrArg o (funext fun a => by
    match a with
    | ⟨0, _⟩ => rfl
    | ⟨1, _⟩ => rfl
    | ⟨2, _⟩ => rfl)

/-- The derivative the kernel leaves. -/
theorem dxdt_array : (dats m 0 c).arrAt 15 cfg0.N
    = fun i : S8192x16.Idx => deriv (L m c) (M m c) (m ((c : Thread nD τ).loc main_arg13)) (i 0) (i 1) := by
  refine (dats m 0 c).arrAt_eq_of_covers 15 _ (by decide +kernel) fun t hf y => ?_
  have e : ((cfg0.win 15).blk t).view.emb y = (ix2 (row t (y 0)) (y 1) : S8192x16.Idx) := by
    blk_ext [row, (idx_moving t).2.2.1]
  refine Eq.trans ?_ (congrArg (fun i : S8192x16.Idx => deriv (L m c) (M m c) (m ((c : Thread nD τ).loc main_arg13)) (i 0) (i 1)) e.symm)
  refine Eq.trans ?_ (out15_block m c t (y 0) (y 1))
  rw [after0_15]
  generalize (outsAt0 m c t).1 = o
  exact congrArg o (funext fun a => by
    match a with
    | ⟨0, _⟩ => rfl
    | ⟨1, _⟩ => rfl)

end Cert.Proof.Arrays
-- ==== Proof.RefArrays.lean ====
/-
  The reference's two results, index by index, in the words of the kernel's (`Arrays`): the gates at the first maxima of
  the noisy logits, the derivative the gated library against the coefficients.
-/
module

public import proofs.«01_k».proof.Proof.GateRow
public import proofs.«01_k».proof.Proof.RefNet
public import proofs.«01_k».proof.Proof.Noise
public import proofs.«01_k».proof.Proof.Arrays

@[expose] public section

set_option maxRecDepth 16384

noncomputable section

namespace Cert.Proof.RefArrays

open Cert.Proof.RefVals Cert.Proof.RefRes Cert.Proof.Net Cert.Proof.Gates Cert.Proof.Reals Cert.Proof.Outs Cert.ReferenceIdeal Cert.ReferenceIdeal.Gen
open Cert.Proof.Arrays (logit gate deriv)
open Idealize.ShloMosaic Idealize.ShloMosaic.TcCoe Idealize.SL.Sem

/-- The derivative at an index. -/
theorem outR_apply (g : FVec Ideal S16x8192x32 .f32) (C : FVec Ideal S16x32 .f32) (M : FVec Ideal S8192x32 .f32) (b : Fin 8192) (d : Fin 16) :
    outR g C M (ix2 b d) = ∑ n : Fin 32, (g (ix3 d b n) : EReal) * C (ix2 d n) * M (ix2 b n) := by
  unfold outR
  pointwise

/-- The noisy logits at an index. -/
theorem noisy_logit (X : FVec Ideal S8192x16 .f32) (W1 : FVec Ideal S16x16x256 .f32) (b1 : FVec Ideal S16x256 .f32) (W2 : FVec Ideal S16x256x256 .f32)
    (b2 : FVec Ideal S16x256 .f32) (W3 : FVec Ideal S16x256x32 .f32) (b3 : FVec Ideal S16x32 .f32) (G : FVec Ideal S16x8192x32 .f32)
    (r : Fin 16) (b : Fin 8192) (d : Fin 32) :
    noisy (routOut (routH2 (routH1 X W1 b1) W2 b2) W3 b3) G (ix3 r b d) = logit X W1 b1 W2 b2 W3 b3 G r b d := by
  rw [noisy_apply, RefNet.rout_apply]
  rfl

/-- The gates at an index, of real inputs, weights and noise. -/
theorem gates_logit (X : FVec Ideal S8192x16 .f32) (W1 : FVec Ideal S16x16x256 .f32) (b1 : FVec Ideal S16x256 .f32) (W2 : FVec Ideal S16x256x256 .f32)
    (b2 : FVec Ideal S16x256 .f32) (W3 : FVec Ideal S16x256x32 .f32) (b3 : FVec Ideal S16x32 .f32) (G : FVec Ideal S16x8192x32 .f32)
    (hX : ∀ i, IsReal (X i)) (hW1 : ∀ i, IsReal (W1 i)) (hb1 : ∀ i, IsReal (b1 i)) (hW2 : ∀ i, IsReal (W2 i)) (hb2 : ∀ i, IsReal (b2 i))
    (hW3 : ∀ i, IsReal (W3 i)) (hb3 : ∀ i, IsReal (b3 i)) (hG : ∀ r b d, IsReal (G (ix3 r b d))) (r : Fin 16) (b : Fin 8192) (d : Fin 32) :
    gatesR (soft (noisy (routOut (routH2 (routH1 X W1 b1) W2 b2) W3 b3) G)) (ix3 r b d) = gate (logit X W1 b1 W2 b2 W3 b3 G) r b d := by
  have hz (k : Fin 32) : IsReal (noisy (routOut (routH2 (routH1 X W1 b1) W2 b2) W3 b3) G (ix3 r b k)) := by
    rw [noisy_logit]
    exact (rout_real (fun _ => hX _) hW1 hb1 hW2 hb2 hW3 hb3 r k).add (hG r b k)
  rw [GateRow.gate_row _ r b hz d, funext fun k => noisy_logit X W1 b1 W2 b2 W3 b3 G r b k]
  rfl

/-- The derivative of gates given at every index. -/
theorem outR_deriv (g : FVec Ideal S16x8192x32 .f32) (C : FVec Ideal S16x32 .f32) (X : FVec Ideal S8192x16 .f32) (W1 : FVec Ideal S32x16x256 .f32)
    (b1 : FVec Ideal S32x256 .f32) (W2 : FVec Ideal S32x256x256 .f32) (b2 : FVec Ideal S32x256 .f32) (W3 : FVec Ideal S32x256x1 .f32) (b3 : FVec Ideal S32x1 .f32)
    (L : Fin 16 → Fin 8192 → Fin 32 → EReal) (hg : ∀ r b d, g (ix3 r b d) = gate L r b d) (b : Fin 8192) (d : Fin 16) :
    outR g C (libOut (libH2 (libH1 X W1 b1) W2 b2) W3 b3) (ix2 b d)
      = deriv L (fun b n => lib (fun i => X (ix2 b i)) W1 b1 W2 b2 W3 b3 n) C b d := by
  rw [outR_apply]
  refine Finset.sum_congr rfl fun n _ => ?_
  rw [hg, RefNet.lib_apply]
  exact mul_right_comm _ _ _

end Cert.Proof.RefArrays
-- ==== Proof.Agree.lean ====
/-
  From equal arguments the reference's two results are the kernel's two result buffers.
-/
module

public import proofs.«01_k».proof.Proof.RefArrays

@[expose] public section

set_option maxRecDepth 16384

noncomputable section

namespace Cert.Proof.Agree

open Cert.Proof.Net Cert.Proof.Arrays Cert.Proof.Reals Cert.Proof.RefVals Cert.Proof.RefRes Cert.Proof.RefArrays
open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (c : Dev nD)
variable (V : Valuation Cert.ReferenceIdeal.τ Cert.ReferenceIdeal.sig (Elt Ideal))

/-- The kernel's noise array is the reference's. -/
theorem noise_V : Cert.KernelIdeal.Gen.V m c main_v12 = noise (draw V) := noise_eq V (fun b => m (c, b))

/-- The router's arguments agree. -/
def RouterArgs : Prop :=
  (V (Cert.ReferenceIdeal.main_arg0 : DevRef Cert.ReferenceIdeal.τ Cert.ReferenceIdeal.sig) : FVec Ideal S8192x16 .f32) = m ((c.tc : Thread nD τ).loc main_arg0)
  ∧ (V (Cert.ReferenceIdeal.main_arg7 : DevRef Cert.ReferenceIdeal.τ Cert.ReferenceIdeal.sig) : FVec Ideal S16x16x256 .f32) = m ((c.tc : Thread nD τ).loc main_arg7)
  ∧ (V (Cert.ReferenceIdeal.main_arg8 : DevRef Cert.ReferenceIdeal.τ Cert.ReferenceIdeal.sig) : FVec Ideal S16x256 .f32) = m ((c.tc : Thread nD τ).loc main_arg8)
  ∧ (V (Cert.ReferenceIdeal.main_arg9 : DevRef Cert.ReferenceIdeal.τ Cert.ReferenceIdeal.sig) : FVec Ideal S16x256x256 .f32) = m ((c.tc : Thread nD τ).loc main_arg9)
  ∧ (V (Cert.ReferenceIdeal.main_arg10 : DevRef Cert.ReferenceIdeal.τ Cert.ReferenceIdeal.sig) : FVec Ideal S16x256 .f32) = m ((c.tc : Thread nD τ).loc main_arg10)
  ∧ (V (Cert.ReferenceIdeal.main_arg11 : DevRef Cert.ReferenceIdeal.τ Cert.ReferenceIdeal.sig) : FVec Ideal S16x256x32 .f32) = m ((c.tc : Thread nD τ).loc main_arg11)
  ∧ (V (Cert.ReferenceIdeal.main_arg12 : DevRef Cert.ReferenceIdeal.τ Cert.ReferenceIdeal.sig) : FVec Ideal S16x32 .f32) = m ((c.tc : Thread nD τ).loc main_arg12)

/-- The library's arguments agree. -/
def LibArgs : Prop :=
  (V (Cert.ReferenceIdeal.main_arg1 : DevRef Cert.ReferenceIdeal.τ Cert.ReferenceIdeal.sig) : FVec Ideal S32x16x256 .f32) = m ((c.tc : Thread nD τ).loc main_arg1)
  ∧ (V (Cert.ReferenceIdeal.main_arg2 : DevRef Cert.ReferenceIdeal.τ Cert.ReferenceIdeal.sig) : FVec Ideal S32x256 .f32) = m ((c.tc : Thread nD τ).loc main_arg2)
  ∧ (V (Cert.ReferenceIdeal.main_arg3 : DevRef Cert.ReferenceIdeal.τ Cert.ReferenceIdeal.sig) : FVec Ideal S32x256x256 .f32) = m ((c.tc : Thread nD τ).loc main_arg3)
  ∧ (V (Cert.ReferenceIdeal.main_arg4 : DevRef Cert.ReferenceIdeal.τ Cert.ReferenceIdeal.sig) : FVec Ideal S32x256 .f32) = m ((c.tc : Thread nD τ).loc main_arg4)
  ∧ (V (Cert.ReferenceIdeal.main_arg5 : DevRef Cert.ReferenceIdeal.τ Cert.ReferenceIdeal.sig) : FVec Ideal S32x256x1 .f32) = m ((c.tc : Thread nD τ).loc main_arg5)
  ∧ (V (Cert.ReferenceIdeal.main_arg6 : DevRef Cert.ReferenceIdeal.τ Cert.ReferenceIdeal.sig) : FVec Ideal S32x1 .f32) = m ((c.tc : Thread nD τ).loc main_arg6)
  ∧ (V (Cert.ReferenceIdeal.main_arg13 : DevRef Cert.ReferenceIdeal.τ Cert.ReferenceIdeal.sig) : FVec Ideal S16x32 .f32) = m ((c.tc : Thread nD τ).loc main_arg13)

/-- The router's arguments are arrays of reals. -/
def RouterReal : Prop :=
  (∀ i, IsReal ((m ((c.tc : Thread nD τ).loc main_arg0) : FVec Ideal S8192x16 .f32) i))
  ∧ (∀ i, IsReal ((m ((c.tc : Thread nD τ).loc main_arg7) : FVec Ideal S16x16x256 .f32) i))
  ∧ (∀ i, IsReal ((m ((c.tc : Thread nD τ).loc main_arg8) : FVec Ideal S16x256 .f32) i))
  ∧ (∀ i, IsReal ((m ((c.tc : Thread nD τ).loc main_arg9) : FVec Ideal S16x256x256 .f32) i))
  ∧ (∀ i, IsReal ((m ((c.tc : Thread nD τ).loc main_arg10) : FVec Ideal S16x256 .f32) i))
  ∧ (∀ i, IsReal ((m ((c.tc : Thread nD τ).loc main_arg11) : FVec Ideal S16x256x32 .f32) i))
  ∧ (∀ i, IsReal ((m ((c.tc : Thread nD τ).loc main_arg12) : FVec Ideal S16x32 .f32) i))

variable {m c V}

theorem gate_point (ha : RouterArgs m c V) (hr : RouterReal m c) (r : Fin 16) (b : Fin 8192) (d : Fin 32) :
    gatesV V (ix3 r b d) = gate (L m c) r b d := by
  obtain ⟨a0, a7, a8, a9, a10, a11, a12⟩ := ha
  obtain ⟨r0, r7, r8, r9, r10, r11, r12⟩ := hr
  unfold gatesV logitsR L
  rw [noise_V m c V, a0, a7, a8, a9, a10, a11, a12]
  exact gates_logit _ _ _ _ _ _ _ _ r0 r7 r8 r9 r10 r11 r12 (Noise.noise_real V) r b d

/-- The gates. -/
theorem gates_eq (ha : RouterArgs m c V) (hr : RouterReal m c) :
    (gatesV V : FVec Ideal S16x8192x32 .f32) = (Cert.KernelIdeal.Gen.dats m 0 c).arrAt 16 cfg0.N := by
  rw [gates_array]
  funext i
  have hi : i = ix3 (i 0) (i 1) (i 2) := by funext k; fin_cases k <;> rfl
  exact (congrArg (gatesV V) hi).trans (gate_point ha hr (i 0) (i 1) (i 2))

/-- The derivative. -/
theorem dxdt_eq (ha : RouterArgs m c V) (hl : LibArgs m c V) (hr : RouterReal m c) :
    (outR (gatesV V) (V (Cert.ReferenceIdeal.main_arg13 : DevRef Cert.ReferenceIdeal.τ Cert.ReferenceIdeal.sig)) (mlpsR V) : FVec Ideal S8192x16 .f32)
      = (Cert.KernelIdeal.Gen.dats m 0 c).arrAt 15 cfg0.N := by
  rw [dxdt_array]
  funext i
  have hi : i = ix2 (i 0) (i 1) := by funext k; fin_cases k <;> rfl
  have hg := gate_point ha hr
  obtain ⟨a0, _⟩ := ha
  obtain ⟨a1, a2, a3, a4, a5, a6, a13⟩ := hl
  unfold mlpsR
  rw [a0, a1, a2, a3, a4, a5, a6, a13]
  exact (congrArg _ hi).trans (outR_deriv _ _ _ _ _ _ _ _ _ (L m c) hg (i 0) (i 1))

end Cert.Proof.Agree
-- ==== Proof.lean ====
/-
  The proof of `Cert.Claim`: the frames are the generated ones and the reference's run, and the two programs'
  results agree by `Cert.Proof.Agree`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Finite
public import proofs.«01_k».proof.Proof.RefRun
public import proofs.«01_k».proof.Proof.Agree
public import Idealize.ShloMosaic.Adequacy
public import Idealize.ShloMosaic.Init

@[expose] public section

set_option maxRecDepth 16384

noncomputable section

namespace Cert.Proof

open Idealize.ShloMosaic Idealize.SL.Sem Cert.Kernel

/-- Under the precondition the router's arguments are arrays of reals. -/
theorem router_real [Cert.Pre_router_inputs_finite.Facts] (m : (ℓ : Loc Cert.KernelIdeal.nD Cert.KernelIdeal.τ Cert.KernelIdeal.sig) → Buf (Elt Ideal) ℓ)
    (h : Cert.Pre_KernelIdeal_router_inputs_finite m) (c : Dev Cert.KernelIdeal.nD) : Agree.RouterReal m c := by
  obtain ⟨h0, h7, h8, h9, h10, h11, h12⟩ := h c
  exact ⟨Finite.real_of_cmp _ _ h0, Finite.real_of_cmp _ _ h7, Finite.real_of_cmp _ _ h8, Finite.real_of_cmp _ _ h9,
    Finite.real_of_cmp _ _ h10, Finite.real_of_cmp _ _ h11, Finite.real_of_cmp _ _ h12⟩

/-- The two programs leave the same results. -/
theorem algebraic [Cert.Pre_router_inputs_finite.Facts] : Cert.algebraic_KernelIdeal_ReferenceIdeal_pre_router_inputs_finite := by
  intro m ρ m' ρ' hp ha
  refine ⟨_, _, Cert.KernelIdeal.Value.run_blocks m ρ,
    (θ_run _ _ _).mono ?_ (RefRun.results m' ρ' (fun b => m (⟨0, by decide⟩, b)))⟩
  intro r h c
  obtain ⟨a0, a1, a2, a3, a4, a5, a6, a7, a8, a9, a10, a11, a12, a13⟩ := ha c
  have hr := router_real m hp c
  obtain ⟨hd, hg, hk⟩ := h c
  exact ⟨hd.trans (Agree.dxdt_eq ⟨a0, a7, a8, a9, a10, a11, a12⟩ ⟨a1, a2, a3, a4, a5, a6, a13⟩ hr),
    hg.trans (Agree.gates_eq ⟨a0, a7, a8, a9, a10, a11, a12⟩ hr), hk⟩

theorem claim : Cert.Claim :=
  ⟨Cert.Kernel.Gen.facts, Cert.KernelIdeal.Gen.facts, Cert.ReferenceIdeal.Gen.facts, Finite.facts,
    fun m ρ _ => Cert.Kernel.Gen.frame m ρ, fun m ρ _ => Cert.KernelIdeal.Gen.frame m ρ, fun m ρ _ => Cert.KernelIdeal.Gen.frame m ρ,
    fun m ρ _ => RefRun.frame m ρ, fun m ρ _ => RefRun.frame m ρ, trivial,
    letI := Finite.facts; algebraic⟩

end Cert.Proof

end
